-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_idx_in_range_KernelIdeal [hPre_idx_in_range_KernelIdeal : Cert.Pre_idx_in_range_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_idx_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_idx_in_range_ReferenceIdeal [hPre_idx_in_range_ReferenceIdeal : Cert.Pre_idx_in_range_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_idx_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_idx_in_range_KernelIdeal [hKernelIdeal : Cert.KernelIdeal.Facts] [hPre_idx_in_range_KernelIdeal : Cert.Pre_idx_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_idx_in_range_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_idx_in_range_ReferenceIdeal [hReferenceIdeal : Cert.ReferenceIdeal.Facts] [hPre_idx_in_range_ReferenceIdeal : Cert.Pre_idx_in_range_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_idx_in_range_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_idx_in_range_KernelIdeal [hKernelIdeal : Cert.KernelIdeal.Facts] [hReferenceIdeal : Cert.ReferenceIdeal.Facts] [hPre_idx_in_range_KernelIdeal : Cert.Pre_idx_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_idx_in_range_KernelIdeal m →
    (∀ c : Dev Cert.KernelIdeal.nD,
      m ((c.tc : Thread Cert.KernelIdeal.nD Cert.KernelIdeal.τ).loc Cert.KernelIdeal.main_arg0) = Layout.block ⟨2, ![2048, 256]⟩ ⟨2, ![16384, 256]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_idx_in_range_KernelIdeal : Cert.Pre_idx_in_range_KernelIdeal.Facts) (hPre_idx_in_range_ReferenceIdeal : Cert.Pre_idx_in_range_ReferenceIdeal.Facts),
    quiescent_Kernel (hKernel := hKernel)
    ∧ quiescent_KernelIdeal (hKernelIdeal := hKernelIdeal)
    ∧ quiescent_KernelIdeal_pre_idx_in_range_KernelIdeal (hKernelIdeal := hKernelIdeal) (hPre_idx_in_range_KernelIdeal := hPre_idx_in_range_KernelIdeal)
    ∧ quiescent_ReferenceIdeal (hReferenceIdeal := hReferenceIdeal)
    ∧ quiescent_ReferenceIdeal_pre_idx_in_range_ReferenceIdeal (hReferenceIdeal := hReferenceIdeal) (hPre_idx_in_range_ReferenceIdeal := hPre_idx_in_range_ReferenceIdeal)
    ∧ preserves_Kernel_KernelIdeal
    ∧ algebraic_KernelIdeal_ReferenceIdeal_pre_idx_in_range_KernelIdeal (hKernelIdeal := hKernelIdeal) (hReferenceIdeal := hReferenceIdeal) (hPre_idx_in_range_KernelIdeal := hPre_idx_in_range_KernelIdeal)
-- ==== Pre_idx_in_range_KernelIdeal.lean ====
abbrev S2048x256 : Shape := ⟨2, ![2048, 256]⟩
abbrev S512 : Shape := ⟨1, ![512]⟩
abbrev S_ : Shape := ⟨0, ![]⟩

class Facts : Prop where
  bcast_S_S512 : S_.BroadcastsInDim S512 (![] : Fin 0 → Fin S512.rank)
  reducesTo_S512_S_d0 : S512.ReducesTo [0] S_
  h_S_ : 0 < S_.numel

variable [Facts]

def fn {F : FTy → Type} [FloatOps F] (main_arg0 : FVec F S2048x256 .bf16) (main_arg1 : IVec S512 32) : IVec S_ 1 :=
  let main_c : IVec S_ 32 := constantI S_ 32 0#32
  let main_v0 : IVec S512 32 := broadcastInDim S512 ![] bcast_S_S512 main_c
  let main_v1 : IVec S512 1 := cmpi .sge main_arg1 main_v0
  let main_c_0 : IVec S_ 32 := constantI S_ 32 16384#32
  let main_v2 : IVec S512 32 := broadcastInDim S512 ![] bcast_S_S512 main_c_0
  let main_v3 : IVec S512 1 := cmpi .slt main_arg1 main_v2
  let main_v4 : IVec S512 1 := andi main_v1 main_v3
  let main_c_1 : IVec S_ 1 := constantI S_ 1 1#1
  let main_v5 : IVec S_ 1 := (fun x v => Host.reduce IntOp.andi x v reducesTo_S512_S_d0 h_S_) main_v4 main_c_1
  main_v5
-- ==== Pre_idx_in_range_ReferenceIdeal.lean ====
abbrev S16384x256 : Shape := ⟨2, ![16384, 256]⟩
abbrev S512 : Shape := ⟨1, ![512]⟩
abbrev S_ : Shape := ⟨0, ![]⟩

class Facts : Prop where
  bcast_S_S512 : S_.BroadcastsInDim S512 (![] : Fin 0 → Fin S512.rank)
  reducesTo_S512_S_d0 : S512.ReducesTo [0] S_
  h_S_ : 0 < S_.numel

variable [Facts]

def fn {F : FTy → Type} [FloatOps F] (main_arg0 : FVec F S16384x256 .bf16) (main_arg1 : IVec S512 32) : IVec S_ 1 :=
  let main_c : IVec S_ 32 := constantI S_ 32 0#32
  let main_v0 : IVec S512 32 := broadcastInDim S512 ![] bcast_S_S512 main_c
  let main_v1 : IVec S512 1 := cmpi .sge main_arg1 main_v0
  let main_c_0 : IVec S_ 32 := constantI S_ 32 16384#32
  let main_v2 : IVec S512 32 := broadcastInDim S512 ![] bcast_S_S512 main_c_0
  let main_v3 : IVec S512 1 := cmpi .slt main_arg1 main_v2
  let main_v4 : IVec S512 1 := andi main_v1 main_v3
  let main_c_1 : IVec S_ 1 := constantI S_ 1 1#1
  let main_v5 : IVec S_ 1 := (fun x v => Host.reduce IntOp.andi x v reducesTo_S512_S_d0 h_S_) main_v4 main_c_1
  main_v5
-- ==== Kernel.lean ====
abbrev S2048x256 : Shape := ⟨2, ![2048, 256]⟩
abbrev S512 : Shape := ⟨1, ![512]⟩
abbrev S512x256 : Shape := ⟨2, ![512, 256]⟩
abbrev S8x64x256 : Shape := ⟨3, ![8, 64, 256]⟩
abbrev S8 : Shape := ⟨1, ![8]⟩
abbrev S512x1 : Shape := ⟨2, ![512, 1]⟩
abbrev S512x2048 : Shape := ⟨2, ![512, 2048]⟩
abbrev S64x256 : Shape := ⟨2, ![64, 256]⟩
abbrev S1x64x256 : Shape := ⟨3, ![1, 64, 256]⟩
abbrev S_ : Shape := ⟨0, ![]⟩
abbrev S1 : Shape := ⟨1, ![1]⟩

abbrev nBuf : Space → Nat
  | .hbm => 3
  | .vmem => 6
  | .smem => 0
  | _ => 0

abbrev bufTy : (tb : Table) → Fin (tcTables nBuf tb) → BufTy
  | .hbm, ⟨0, _⟩ => ⟨S2048x256, .bf16⟩
  | .hbm, ⟨1, _⟩ => ⟨S512, .i32⟩
  | .hbm, ⟨2, _⟩ => ⟨S512x256, .f32⟩
  | .local _ .vmem, ⟨0, _⟩ => ⟨S2048x256, .bf16⟩
  | .local _ .vmem, ⟨1, _⟩ => ⟨S512, .i32⟩
  | .local _ .vmem, ⟨2, _⟩ => ⟨S512x256, .f32⟩
  | .local _ .vmem, ⟨3, _⟩ => ⟨S512x256, .bf16⟩
  | .local _ .vmem, ⟨4, _⟩ => ⟨S8x64x256, .bf16⟩
  | .local _ .vmem, ⟨5, _⟩ => ⟨S512x256, .bf16⟩
  | _, _ => ⟨S2048x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 1 35 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32 : BitVec 32 := 64#32
  let v22 : BitVec 32 := Scalar.muli v2 c64_i32
  let v23 : Index := Scalar.indexCast v22
  let c0_4 : Index := 0#32
  ![v23.toNat, 0]
def k0_dev1 (d0 : Dev nD) : Nat :=
  let c0_i32_16 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_8 : BitVec 32 := 1#32
  let v29 : BitVec 32 := Scalar.addi v2 c1_i32_8
  let c8_i32_9 : BitVec 32 := 8#32
  let c0_i32 : BitVec 32 := 0#32
  let v30 : BitVec 1 := Scalar.cmpi .eq c8_i32_9 c0_i32
  let c1_i32_10 : BitVec 32 := 1#32
  let v31 : BitVec 32 := Scalar.select v30 c1_i32_10 c8_i32_9
  let v32 : BitVec 32 := Scalar.remsi v29 v31
  let c0_i32_12 : BitVec 32 := 0#32
  let v34 : BitVec 1 := Scalar.cmpi .slt v32 c0_i32_12
  let c0_i32_13 : BitVec 32 := 0#32
  let v35 : BitVec 1 := Scalar.cmpi .slt v31 c0_i32_13
  let v36 : BitVec 1 := Scalar.xori v34 v35
  let c0_i32_11 : BitVec 32 := 0#32
  let v33 : BitVec 1 := Scalar.cmpi .ne v32 c0_i32_11
  let v37 : BitVec 1 := Scalar.andi v36 v33
  let v38 : BitVec 32 := Scalar.addi v32 v31
  let v39 : BitVec 32 := Scalar.select v37 v38 v32
  let c1_i32_15 : BitVec 32 := 1#32
  let v40 : BitVec 32 := Scalar.muli v39 c1_i32_15
  let v41 : BitVec 32 := Scalar.addi c0_i32_16 v40
  v41.toNat
def k0_dev2 (d0 : Dev nD) : Nat :=
  let c0_i32_25 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v42 : BitVec 32 := Scalar.addi v2 c2_i32
  let c8_i32_17 : BitVec 32 := 8#32
  let c0_i32_18 : BitVec 32 := 0#32
  let v43 : BitVec 1 := Scalar.cmpi .eq c8_i32_17 c0_i32_18
  let c1_i32_19 : BitVec 32 := 1#32
  let v44 : BitVec 32 := Scalar.select v43 c1_i32_19 c8_i32_17
  let v45 : BitVec 32 := Scalar.remsi v42 v44
  let c0_i32_21 : BitVec 32 := 0#32
  let v47 : BitVec 1 := Scalar.cmpi .slt v45 c0_i32_21
  let c0_i32_22 : BitVec 32 := 0#32
  let v48 : BitVec 1 := Scalar.cmpi .slt v44 c0_i32_22
  let v49 : BitVec 1 := Scalar.xori v47 v48
  let c0_i32_20 : BitVec 32 := 0#32
  let v46 : BitVec 1 := Scalar.cmpi .ne v45 c0_i32_20
  let v50 : BitVec 1 := Scalar.andi v49 v46
  let v51 : BitVec 32 := Scalar.addi v45 v44
  let v52 : BitVec 32 := Scalar.select v50 v51 v45
  let c1_i32_24 : BitVec 32 := 1#32
  let v53 : BitVec 32 := Scalar.muli v52 c1_i32_24
  let v54 : BitVec 32 := Scalar.addi c0_i32_25 v53
  v54.toNat
def k0_dev3 (d0 : Dev nD) : Nat :=
  let c0_i32_34 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v55 : BitVec 32 := Scalar.addi v2 c3_i32
  let c8_i32_26 : BitVec 32 := 8#32
  let c0_i32_27 : BitVec 32 := 0#32
  let v56 : BitVec 1 := Scalar.cmpi .eq c8_i32_26 c0_i32_27
  let c1_i32_28 : BitVec 32 := 1#32
  let v57 : BitVec 32 := Scalar.select v56 c1_i32_28 c8_i32_26
  let v58 : BitVec 32 := Scalar.remsi v55 v57
  let c0_i32_30 : BitVec 32 := 0#32
  let v60 : BitVec 1 := Scalar.cmpi .slt v58 c0_i32_30
  let c0_i32_31 : BitVec 32 := 0#32
  let v61 : BitVec 1 := Scalar.cmpi .slt v57 c0_i32_31
  let v62 : BitVec 1 := Scalar.xori v60 v61
  let c0_i32_29 : BitVec 32 := 0#32
  let v59 : BitVec 1 := Scalar.cmpi .ne v58 c0_i32_29
  let v63 : BitVec 1 := Scalar.andi v62 v59
  let v64 : BitVec 32 := Scalar.addi v58 v57
  let v65 : BitVec 32 := Scalar.select v63 v64 v58
  let c1_i32_33 : BitVec 32 := 1#32
  let v66 : BitVec 32 := Scalar.muli v65 c1_i32_33
  let v67 : BitVec 32 := Scalar.addi c0_i32_34 v66
  v67.toNat
def k0_dev4 (d0 : Dev nD) : Nat :=
  let c0_i32_43 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v68 : BitVec 32 := Scalar.addi v2 c4_i32
  let c8_i32_35 : BitVec 32 := 8#32
  let c0_i32_36 : BitVec 32 := 0#32
  let v69 : BitVec 1 := Scalar.cmpi .eq c8_i32_35 c0_i32_36
  let c1_i32_37 : BitVec 32 := 1#32
  let v70 : BitVec 32 := Scalar.select v69 c1_i32_37 c8_i32_35
  let v71 : BitVec 32 := Scalar.remsi v68 v70
  let c0_i32_39 : BitVec 32 := 0#32
  let v73 : BitVec 1 := Scalar.cmpi .slt v71 c0_i32_39
  let c0_i32_40 : BitVec 32 := 0#32
  let v74 : BitVec 1 := Scalar.cmpi .slt v70 c0_i32_40
  let v75 : BitVec 1 := Scalar.xori v73 v74
  let c0_i32_38 : BitVec 32 := 0#32
  let v72 : BitVec 1 := Scalar.cmpi .ne v71 c0_i32_38
  let v76 : BitVec 1 := Scalar.andi v75 v72
  let v77 : BitVec 32 := Scalar.addi v71 v70
  let v78 : BitVec 32 := Scalar.select v76 v77 v71
  let c1_i32_42 : BitVec 32 := 1#32
  let v79 : BitVec 32 := Scalar.muli v78 c1_i32_42
  let v80 : BitVec 32 := Scalar.addi c0_i32_43 v79
  v80.toNat
def k0_dev5 (d0 : Dev nD) : Nat :=
  let c0_i32_52 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v81 : BitVec 32 := Scalar.addi v2 c5_i32
  let c8_i32_44 : BitVec 32 := 8#32
  let c0_i32_45 : BitVec 32 := 0#32
  let v82 : BitVec 1 := Scalar.cmpi .eq c8_i32_44 c0_i32_45
  let c1_i32_46 : BitVec 32 := 1#32
  let v83 : BitVec 32 := Scalar.select v82 c1_i32_46 c8_i32_44
  let v84 : BitVec 32 := Scalar.remsi v81 v83
  let c0_i32_48 : BitVec 32 := 0#32
  let v86 : BitVec 1 := Scalar.cmpi .slt v84 c0_i32_48
  let c0_i32_49 : BitVec 32 := 0#32
  let v87 : BitVec 1 := Scalar.cmpi .slt v83 c0_i32_49
  let v88 : BitVec 1 := Scalar.xori v86 v87
  let c0_i32_47 : BitVec 32 := 0#32
  let v85 : BitVec 1 := Scalar.cmpi .ne v84 c0_i32_47
  let v89 : BitVec 1 := Scalar.andi v88 v85
  let v90 : BitVec 32 := Scalar.addi v84 v83
  let v91 : BitVec 32 := Scalar.select v89 v90 v84
  let c1_i32_51 : BitVec 32 := 1#32
  let v92 : BitVec 32 := Scalar.muli v91 c1_i32_51
  let v93 : BitVec 32 := Scalar.addi c0_i32_52 v92
  v93.toNat
def k0_dev6 (d0 : Dev nD) : Nat :=
  let c0_i32_61 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v94 : BitVec 32 := Scalar.addi v2 c6_i32
  let c8_i32_53 : BitVec 32 := 8#32
  let c0_i32_54 : BitVec 32 := 0#32
  let v95 : BitVec 1 := Scalar.cmpi .eq c8_i32_53 c0_i32_54
  let c1_i32_55 : BitVec 32 := 1#32
  let v96 : BitVec 32 := Scalar.select v95 c1_i32_55 c8_i32_53
  let v97 : BitVec 32 := Scalar.remsi v94 v96
  let c0_i32_57 : BitVec 32 := 0#32
  let v99 : BitVec 1 := Scalar.cmpi .slt v97 c0_i32_57
  let c0_i32_58 : BitVec 32 := 0#32
  let v100 : BitVec 1 := Scalar.cmpi .slt v96 c0_i32_58
  let v101 : BitVec 1 := Scalar.xori v99 v100
  let c0_i32_56 : BitVec 32 := 0#32
  let v98 : BitVec 1 := Scalar.cmpi .ne v97 c0_i32_56
  let v102 : BitVec 1 := Scalar.andi v101 v98
  let v103 : BitVec 32 := Scalar.addi v97 v96
  let v104 : BitVec 32 := Scalar.select v102 v103 v97
  let c1_i32_60 : BitVec 32 := 1#32
  let v105 : BitVec 32 := Scalar.muli v104 c1_i32_60
  let v106 : BitVec 32 := Scalar.addi c0_i32_61 v105
  v106.toNat
def k0_dev7 (d0 : Dev nD) : Nat :=
  let c0_i32_70 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v107 : BitVec 32 := Scalar.addi v2 c7_i32
  let c8_i32_62 : BitVec 32 := 8#32
  let c0_i32_63 : BitVec 32 := 0#32
  let v108 : BitVec 1 := Scalar.cmpi .eq c8_i32_62 c0_i32_63
  let c1_i32_64 : BitVec 32 := 1#32
  let v109 : BitVec 32 := Scalar.select v108 c1_i32_64 c8_i32_62
  let v110 : BitVec 32 := Scalar.remsi v107 v109
  let c0_i32_66 : BitVec 32 := 0#32
  let v112 : BitVec 1 := Scalar.cmpi .slt v110 c0_i32_66
  let c0_i32_67 : BitVec 32 := 0#32
  let v113 : BitVec 1 := Scalar.cmpi .slt v109 c0_i32_67
  let v114 : BitVec 1 := Scalar.xori v112 v113
  let c0_i32_65 : BitVec 32 := 0#32
  let v111 : BitVec 1 := Scalar.cmpi .ne v110 c0_i32_65
  let v115 : BitVec 1 := Scalar.andi v114 v111
  let v116 : BitVec 32 := Scalar.addi v110 v109
  let v117 : BitVec 32 := Scalar.select v115 v116 v110
  let c1_i32_69 : BitVec 32 := 1#32
  let v118 : BitVec 32 := Scalar.muli v117 c1_i32_69
  let v119 : BitVec 32 := Scalar.addi c0_i32_70 v118
  v119.toNat
def k0_off2 (d0 : Dev nD) (c1_i32_72 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v120 : BitVec 32 := Scalar.addi v2 c1_i32_72
  let c8_i32_73 : BitVec 32 := 8#32
  let c0_i32_74 : BitVec 32 := 0#32
  let v121 : BitVec 1 := Scalar.cmpi .eq c8_i32_73 c0_i32_74
  let c1_i32_75 : BitVec 32 := 1#32
  let v122 : BitVec 32 := Scalar.select v121 c1_i32_75 c8_i32_73
  let v123 : BitVec 32 := Scalar.remsi v120 v122
  let c0_i32_77 : BitVec 32 := 0#32
  let v125 : BitVec 1 := Scalar.cmpi .slt v123 c0_i32_77
  let c0_i32_78 : BitVec 32 := 0#32
  let v126 : BitVec 1 := Scalar.cmpi .slt v122 c0_i32_78
  let v127 : BitVec 1 := Scalar.xori v125 v126
  let c0_i32_76 : BitVec 32 := 0#32
  let v124 : BitVec 1 := Scalar.cmpi .ne v123 c0_i32_76
  let v128 : BitVec 1 := Scalar.andi v127 v124
  let v129 : BitVec 32 := Scalar.addi v123 v122
  let v130 : BitVec 32 := Scalar.select v128 v129 v123
  let c64_i32_79 : BitVec 32 := 64#32
  let v131 : BitVec 32 := Scalar.muli v130 c64_i32_79
  let c0_i32_87 : BitVec 32 := 0#32
  ![v131.toNat, 0]
def k0_dev8 (d0 : Dev nD) : Nat :=
  let c0_i32_84 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_72 : BitVec 32 := 1#32
  let v120 : BitVec 32 := Scalar.addi v2 c1_i32_72
  let c8_i32_73 : BitVec 32 := 8#32
  let c0_i32_74 : BitVec 32 := 0#32
  let v121 : BitVec 1 := Scalar.cmpi .eq c8_i32_73 c0_i32_74
  let c1_i32_75 : BitVec 32 := 1#32
  let v122 : BitVec 32 := Scalar.select v121 c1_i32_75 c8_i32_73
  let v123 : BitVec 32 := Scalar.remsi v120 v122
  let c0_i32_77 : BitVec 32 := 0#32
  let v125 : BitVec 1 := Scalar.cmpi .slt v123 c0_i32_77
  let c0_i32_78 : BitVec 32 := 0#32
  let v126 : BitVec 1 := Scalar.cmpi .slt v122 c0_i32_78
  let v127 : BitVec 1 := Scalar.xori v125 v126
  let c0_i32_76 : BitVec 32 := 0#32
  let v124 : BitVec 1 := Scalar.cmpi .ne v123 c0_i32_76
  let v128 : BitVec 1 := Scalar.andi v127 v124
  let v129 : BitVec 32 := Scalar.addi v123 v122
  let v130 : BitVec 32 := Scalar.select v128 v129 v123
  let c1_i32_83 : BitVec 32 := 1#32
  let v132 : BitVec 32 := Scalar.muli v130 c1_i32_83
  let v133 : BitVec 32 := Scalar.addi c0_i32_84 v132
  v133.toNat
def k0_dev9 (d0 : Dev nD) : Nat :=
  let c0_i32_100 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_88 : BitVec 32 := 2#32
  let v141 : BitVec 32 := Scalar.addi v2 c2_i32_88
  let c8_i32_89 : BitVec 32 := 8#32
  let c0_i32_90 : BitVec 32 := 0#32
  let v142 : BitVec 1 := Scalar.cmpi .eq c8_i32_89 c0_i32_90
  let c1_i32_91 : BitVec 32 := 1#32
  let v143 : BitVec 32 := Scalar.select v142 c1_i32_91 c8_i32_89
  let v144 : BitVec 32 := Scalar.remsi v141 v143
  let c0_i32_93 : BitVec 32 := 0#32
  let v146 : BitVec 1 := Scalar.cmpi .slt v144 c0_i32_93
  let c0_i32_94 : BitVec 32 := 0#32
  let v147 : BitVec 1 := Scalar.cmpi .slt v143 c0_i32_94
  let v148 : BitVec 1 := Scalar.xori v146 v147
  let c0_i32_92 : BitVec 32 := 0#32
  let v145 : BitVec 1 := Scalar.cmpi .ne v144 c0_i32_92
  let v149 : BitVec 1 := Scalar.andi v148 v145
  let v150 : BitVec 32 := Scalar.addi v144 v143
  let v151 : BitVec 32 := Scalar.select v149 v150 v144
  let c1_i32_99 : BitVec 32 := 1#32
  let v153 : BitVec 32 := Scalar.muli v151 c1_i32_99
  let v154 : BitVec 32 := Scalar.addi c0_i32_100 v153
  v154.toNat
def k0_dev10 (d0 : Dev nD) : Nat :=
  let c0_i32_116 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_104 : BitVec 32 := 3#32
  let v162 : BitVec 32 := Scalar.addi v2 c3_i32_104
  let c8_i32_105 : BitVec 32 := 8#32
  let c0_i32_106 : BitVec 32 := 0#32
  let v163 : BitVec 1 := Scalar.cmpi .eq c8_i32_105 c0_i32_106
  let c1_i32_107 : BitVec 32 := 1#32
  let v164 : BitVec 32 := Scalar.select v163 c1_i32_107 c8_i32_105
  let v165 : BitVec 32 := Scalar.remsi v162 v164
  let c0_i32_109 : BitVec 32 := 0#32
  let v167 : BitVec 1 := Scalar.cmpi .slt v165 c0_i32_109
  let c0_i32_110 : BitVec 32 := 0#32
  let v168 : BitVec 1 := Scalar.cmpi .slt v164 c0_i32_110
  let v169 : BitVec 1 := Scalar.xori v167 v168
  let c0_i32_108 : BitVec 32 := 0#32
  let v166 : BitVec 1 := Scalar.cmpi .ne v165 c0_i32_108
  let v170 : BitVec 1 := Scalar.andi v169 v166
  let v171 : BitVec 32 := Scalar.addi v165 v164
  let v172 : BitVec 32 := Scalar.select v170 v171 v165
  let c1_i32_115 : BitVec 32 := 1#32
  let v174 : BitVec 32 := Scalar.muli v172 c1_i32_115
  let v175 : BitVec 32 := Scalar.addi c0_i32_116 v174
  v175.toNat
def k0_dev11 (d0 : Dev nD) : Nat :=
  let c0_i32_132 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_120 : BitVec 32 := 4#32
  let v183 : BitVec 32 := Scalar.addi v2 c4_i32_120
  let c8_i32_121 : BitVec 32 := 8#32
  let c0_i32_122 : BitVec 32 := 0#32
  let v184 : BitVec 1 := Scalar.cmpi .eq c8_i32_121 c0_i32_122
  let c1_i32_123 : BitVec 32 := 1#32
  let v185 : BitVec 32 := Scalar.select v184 c1_i32_123 c8_i32_121
  let v186 : BitVec 32 := Scalar.remsi v183 v185
  let c0_i32_125 : BitVec 32 := 0#32
  let v188 : BitVec 1 := Scalar.cmpi .slt v186 c0_i32_125
  let c0_i32_126 : BitVec 32 := 0#32
  let v189 : BitVec 1 := Scalar.cmpi .slt v185 c0_i32_126
  let v190 : BitVec 1 := Scalar.xori v188 v189
  let c0_i32_124 : BitVec 32 := 0#32
  let v187 : BitVec 1 := Scalar.cmpi .ne v186 c0_i32_124
  let v191 : BitVec 1 := Scalar.andi v190 v187
  let v192 : BitVec 32 := Scalar.addi v186 v185
  let v193 : BitVec 32 := Scalar.select v191 v192 v186
  let c1_i32_131 : BitVec 32 := 1#32
  let v195 : BitVec 32 := Scalar.muli v193 c1_i32_131
  let v196 : BitVec 32 := Scalar.addi c0_i32_132 v195
  v196.toNat
def k0_dev12 (d0 : Dev nD) : Nat :=
  let c0_i32_148 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_136 : BitVec 32 := 5#32
  let v204 : BitVec 32 := Scalar.addi v2 c5_i32_136
  let c8_i32_137 : BitVec 32 := 8#32
  let c0_i32_138 : BitVec 32 := 0#32
  let v205 : BitVec 1 := Scalar.cmpi .eq c8_i32_137 c0_i32_138
  let c1_i32_139 : BitVec 32 := 1#32
  let v206 : BitVec 32 := Scalar.select v205 c1_i32_139 c8_i32_137
  let v207 : BitVec 32 := Scalar.remsi v204 v206
  let c0_i32_141 : BitVec 32 := 0#32
  let v209 : BitVec 1 := Scalar.cmpi .slt v207 c0_i32_141
  let c0_i32_142 : BitVec 32 := 0#32
  let v210 : BitVec 1 := Scalar.cmpi .slt v206 c0_i32_142
  let v211 : BitVec 1 := Scalar.xori v209 v210
  let c0_i32_140 : BitVec 32 := 0#32
  let v208 : BitVec 1 := Scalar.cmpi .ne v207 c0_i32_140
  let v212 : BitVec 1 := Scalar.andi v211 v208
  let v213 : BitVec 32 := Scalar.addi v207 v206
  let v214 : BitVec 32 := Scalar.select v212 v213 v207
  let c1_i32_147 : BitVec 32 := 1#32
  let v216 : BitVec 32 := Scalar.muli v214 c1_i32_147
  let v217 : BitVec 32 := Scalar.addi c0_i32_148 v216
  v217.toNat
def k0_dev13 (d0 : Dev nD) : Nat :=
  let c0_i32_164 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_152 : BitVec 32 := 6#32
  let v225 : BitVec 32 := Scalar.addi v2 c6_i32_152
  let c8_i32_153 : BitVec 32 := 8#32
  let c0_i32_154 : BitVec 32 := 0#32
  let v226 : BitVec 1 := Scalar.cmpi .eq c8_i32_153 c0_i32_154
  let c1_i32_155 : BitVec 32 := 1#32
  let v227 : BitVec 32 := Scalar.select v226 c1_i32_155 c8_i32_153
  let v228 : BitVec 32 := Scalar.remsi v225 v227
  let c0_i32_157 : BitVec 32 := 0#32
  let v230 : BitVec 1 := Scalar.cmpi .slt v228 c0_i32_157
  let c0_i32_158 : BitVec 32 := 0#32
  let v231 : BitVec 1 := Scalar.cmpi .slt v227 c0_i32_158
  let v232 : BitVec 1 := Scalar.xori v230 v231
  let c0_i32_156 : BitVec 32 := 0#32
  let v229 : BitVec 1 := Scalar.cmpi .ne v228 c0_i32_156
  let v233 : BitVec 1 := Scalar.andi v232 v229
  let v234 : BitVec 32 := Scalar.addi v228 v227
  let v235 : BitVec 32 := Scalar.select v233 v234 v228
  let c1_i32_163 : BitVec 32 := 1#32
  let v237 : BitVec 32 := Scalar.muli v235 c1_i32_163
  let v238 : BitVec 32 := Scalar.addi c0_i32_164 v237
  v238.toNat
def k0_dev14 (d0 : Dev nD) : Nat :=
  let c0_i32_180 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_168 : BitVec 32 := 7#32
  let v246 : BitVec 32 := Scalar.addi v2 c7_i32_168
  let c8_i32_169 : BitVec 32 := 8#32
  let c0_i32_170 : BitVec 32 := 0#32
  let v247 : BitVec 1 := Scalar.cmpi .eq c8_i32_169 c0_i32_170
  let c1_i32_171 : BitVec 32 := 1#32
  let v248 : BitVec 32 := Scalar.select v247 c1_i32_171 c8_i32_169
  let v249 : BitVec 32 := Scalar.remsi v246 v248
  let c0_i32_173 : BitVec 32 := 0#32
  let v251 : BitVec 1 := Scalar.cmpi .slt v249 c0_i32_173
  let c0_i32_174 : BitVec 32 := 0#32
  let v252 : BitVec 1 := Scalar.cmpi .slt v248 c0_i32_174
  let v253 : BitVec 1 := Scalar.xori v251 v252
  let c0_i32_172 : BitVec 32 := 0#32
  let v250 : BitVec 1 := Scalar.cmpi .ne v249 c0_i32_172
  let v254 : BitVec 1 := Scalar.andi v253 v250
  let v255 : BitVec 32 := Scalar.addi v249 v248
  let v256 : BitVec 32 := Scalar.select v254 v255 v249
  let c1_i32_179 : BitVec 32 := 1#32
  let v258 : BitVec 32 := Scalar.muli v256 c1_i32_179
  let v259 : BitVec 32 := Scalar.addi c0_i32_180 v258
  v259.toNat
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_268 : BitVec 32 := 64#32
  let v344 : BitVec 32 := Scalar.muli v2 c64_i32_268
  let c0_i32_273 : BitVec 32 := 0#32
  ![v344.toNat, 0]
def k0_dev15 (d0 : Dev nD) : Nat :=
  let c0_i32_272 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_260 : BitVec 32 := 1#32
  let v332 : BitVec 32 := Scalar.addi v2 c1_i32_260
  let c8_i32_261 : BitVec 32 := 8#32
  let c0_i32_262 : BitVec 32 := 0#32
  let v333 : BitVec 1 := Scalar.cmpi .eq c8_i32_261 c0_i32_262
  let c1_i32_263 : BitVec 32 := 1#32
  let v334 : BitVec 32 := Scalar.select v333 c1_i32_263 c8_i32_261
  let v335 : BitVec 32 := Scalar.remsi v332 v334
  let c0_i32_265 : BitVec 32 := 0#32
  let v337 : BitVec 1 := Scalar.cmpi .slt v335 c0_i32_265
  let c0_i32_266 : BitVec 32 := 0#32
  let v338 : BitVec 1 := Scalar.cmpi .slt v334 c0_i32_266
  let v339 : BitVec 1 := Scalar.xori v337 v338
  let c0_i32_264 : BitVec 32 := 0#32
  let v336 : BitVec 1 := Scalar.cmpi .ne v335 c0_i32_264
  let v340 : BitVec 1 := Scalar.andi v339 v336
  let v341 : BitVec 32 := Scalar.addi v335 v334
  let v342 : BitVec 32 := Scalar.select v340 v341 v335
  let c1_i32_271 : BitVec 32 := 1#32
  let v345 : BitVec 32 := Scalar.muli v342 c1_i32_271
  let v346 : BitVec 32 := Scalar.addi c0_i32_272 v345
  v346.toNat
def k0_dev16 (d0 : Dev nD) : Nat :=
  let c0_i32_287 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_275 : BitVec 32 := 2#32
  let v353 : BitVec 32 := Scalar.addi v2 c2_i32_275
  let c8_i32_276 : BitVec 32 := 8#32
  let c0_i32_277 : BitVec 32 := 0#32
  let v354 : BitVec 1 := Scalar.cmpi .eq c8_i32_276 c0_i32_277
  let c1_i32_278 : BitVec 32 := 1#32
  let v355 : BitVec 32 := Scalar.select v354 c1_i32_278 c8_i32_276
  let v356 : BitVec 32 := Scalar.remsi v353 v355
  let c0_i32_280 : BitVec 32 := 0#32
  let v358 : BitVec 1 := Scalar.cmpi .slt v356 c0_i32_280
  let c0_i32_281 : BitVec 32 := 0#32
  let v359 : BitVec 1 := Scalar.cmpi .slt v355 c0_i32_281
  let v360 : BitVec 1 := Scalar.xori v358 v359
  let c0_i32_279 : BitVec 32 := 0#32
  let v357 : BitVec 1 := Scalar.cmpi .ne v356 c0_i32_279
  let v361 : BitVec 1 := Scalar.andi v360 v357
  let v362 : BitVec 32 := Scalar.addi v356 v355
  let v363 : BitVec 32 := Scalar.select v361 v362 v356
  let c1_i32_286 : BitVec 32 := 1#32
  let v366 : BitVec 32 := Scalar.muli v363 c1_i32_286
  let v367 : BitVec 32 := Scalar.addi c0_i32_287 v366
  v367.toNat
def k0_dev17 (d0 : Dev nD) : Nat :=
  let c0_i32_302 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_290 : BitVec 32 := 3#32
  let v374 : BitVec 32 := Scalar.addi v2 c3_i32_290
  let c8_i32_291 : BitVec 32 := 8#32
  let c0_i32_292 : BitVec 32 := 0#32
  let v375 : BitVec 1 := Scalar.cmpi .eq c8_i32_291 c0_i32_292
  let c1_i32_293 : BitVec 32 := 1#32
  let v376 : BitVec 32 := Scalar.select v375 c1_i32_293 c8_i32_291
  let v377 : BitVec 32 := Scalar.remsi v374 v376
  let c0_i32_295 : BitVec 32 := 0#32
  let v379 : BitVec 1 := Scalar.cmpi .slt v377 c0_i32_295
  let c0_i32_296 : BitVec 32 := 0#32
  let v380 : BitVec 1 := Scalar.cmpi .slt v376 c0_i32_296
  let v381 : BitVec 1 := Scalar.xori v379 v380
  let c0_i32_294 : BitVec 32 := 0#32
  let v378 : BitVec 1 := Scalar.cmpi .ne v377 c0_i32_294
  let v382 : BitVec 1 := Scalar.andi v381 v378
  let v383 : BitVec 32 := Scalar.addi v377 v376
  let v384 : BitVec 32 := Scalar.select v382 v383 v377
  let c1_i32_301 : BitVec 32 := 1#32
  let v387 : BitVec 32 := Scalar.muli v384 c1_i32_301
  let v388 : BitVec 32 := Scalar.addi c0_i32_302 v387
  v388.toNat
def k0_dev18 (d0 : Dev nD) : Nat :=
  let c0_i32_317 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_305 : BitVec 32 := 4#32
  let v395 : BitVec 32 := Scalar.addi v2 c4_i32_305
  let c8_i32_306 : BitVec 32 := 8#32
  let c0_i32_307 : BitVec 32 := 0#32
  let v396 : BitVec 1 := Scalar.cmpi .eq c8_i32_306 c0_i32_307
  let c1_i32_308 : BitVec 32 := 1#32
  let v397 : BitVec 32 := Scalar.select v396 c1_i32_308 c8_i32_306
  let v398 : BitVec 32 := Scalar.remsi v395 v397
  let c0_i32_310 : BitVec 32 := 0#32
  let v400 : BitVec 1 := Scalar.cmpi .slt v398 c0_i32_310
  let c0_i32_311 : BitVec 32 := 0#32
  let v401 : BitVec 1 := Scalar.cmpi .slt v397 c0_i32_311
  let v402 : BitVec 1 := Scalar.xori v400 v401
  let c0_i32_309 : BitVec 32 := 0#32
  let v399 : BitVec 1 := Scalar.cmpi .ne v398 c0_i32_309
  let v403 : BitVec 1 := Scalar.andi v402 v399
  let v404 : BitVec 32 := Scalar.addi v398 v397
  let v405 : BitVec 32 := Scalar.select v403 v404 v398
  let c1_i32_316 : BitVec 32 := 1#32
  let v408 : BitVec 32 := Scalar.muli v405 c1_i32_316
  let v409 : BitVec 32 := Scalar.addi c0_i32_317 v408
  v409.toNat
def k0_dev19 (d0 : Dev nD) : Nat :=
  let c0_i32_332 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_320 : BitVec 32 := 5#32
  let v416 : BitVec 32 := Scalar.addi v2 c5_i32_320
  let c8_i32_321 : BitVec 32 := 8#32
  let c0_i32_322 : BitVec 32 := 0#32
  let v417 : BitVec 1 := Scalar.cmpi .eq c8_i32_321 c0_i32_322
  let c1_i32_323 : BitVec 32 := 1#32
  let v418 : BitVec 32 := Scalar.select v417 c1_i32_323 c8_i32_321
  let v419 : BitVec 32 := Scalar.remsi v416 v418
  let c0_i32_325 : BitVec 32 := 0#32
  let v421 : BitVec 1 := Scalar.cmpi .slt v419 c0_i32_325
  let c0_i32_326 : BitVec 32 := 0#32
  let v422 : BitVec 1 := Scalar.cmpi .slt v418 c0_i32_326
  let v423 : BitVec 1 := Scalar.xori v421 v422
  let c0_i32_324 : BitVec 32 := 0#32
  let v420 : BitVec 1 := Scalar.cmpi .ne v419 c0_i32_324
  let v424 : BitVec 1 := Scalar.andi v423 v420
  let v425 : BitVec 32 := Scalar.addi v419 v418
  let v426 : BitVec 32 := Scalar.select v424 v425 v419
  let c1_i32_331 : BitVec 32 := 1#32
  let v429 : BitVec 32 := Scalar.muli v426 c1_i32_331
  let v430 : BitVec 32 := Scalar.addi c0_i32_332 v429
  v430.toNat
def k0_dev20 (d0 : Dev nD) : Nat :=
  let c0_i32_347 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_335 : BitVec 32 := 6#32
  let v437 : BitVec 32 := Scalar.addi v2 c6_i32_335
  let c8_i32_336 : BitVec 32 := 8#32
  let c0_i32_337 : BitVec 32 := 0#32
  let v438 : BitVec 1 := Scalar.cmpi .eq c8_i32_336 c0_i32_337
  let c1_i32_338 : BitVec 32 := 1#32
  let v439 : BitVec 32 := Scalar.select v438 c1_i32_338 c8_i32_336
  let v440 : BitVec 32 := Scalar.remsi v437 v439
  let c0_i32_340 : BitVec 32 := 0#32
  let v442 : BitVec 1 := Scalar.cmpi .slt v440 c0_i32_340
  let c0_i32_341 : BitVec 32 := 0#32
  let v443 : BitVec 1 := Scalar.cmpi .slt v439 c0_i32_341
  let v444 : BitVec 1 := Scalar.xori v442 v443
  let c0_i32_339 : BitVec 32 := 0#32
  let v441 : BitVec 1 := Scalar.cmpi .ne v440 c0_i32_339
  let v445 : BitVec 1 := Scalar.andi v444 v441
  let v446 : BitVec 32 := Scalar.addi v440 v439
  let v447 : BitVec 32 := Scalar.select v445 v446 v440
  let c1_i32_346 : BitVec 32 := 1#32
  let v450 : BitVec 32 := Scalar.muli v447 c1_i32_346
  let v451 : BitVec 32 := Scalar.addi c0_i32_347 v450
  v451.toNat
def k0_dev21 (d0 : Dev nD) : Nat :=
  let c0_i32_362 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_350 : BitVec 32 := 7#32
  let v458 : BitVec 32 := Scalar.addi v2 c7_i32_350
  let c8_i32_351 : BitVec 32 := 8#32
  let c0_i32_352 : BitVec 32 := 0#32
  let v459 : BitVec 1 := Scalar.cmpi .eq c8_i32_351 c0_i32_352
  let c1_i32_353 : BitVec 32 := 1#32
  let v460 : BitVec 32 := Scalar.select v459 c1_i32_353 c8_i32_351
  let v461 : BitVec 32 := Scalar.remsi v458 v460
  let c0_i32_355 : BitVec 32 := 0#32
  let v463 : BitVec 1 := Scalar.cmpi .slt v461 c0_i32_355
  let c0_i32_356 : BitVec 32 := 0#32
  let v464 : BitVec 1 := Scalar.cmpi .slt v460 c0_i32_356
  let v465 : BitVec 1 := Scalar.xori v463 v464
  let c0_i32_354 : BitVec 32 := 0#32
  let v462 : BitVec 1 := Scalar.cmpi .ne v461 c0_i32_354
  let v466 : BitVec 1 := Scalar.andi v465 v462
  let v467 : BitVec 32 := Scalar.addi v461 v460
  let v468 : BitVec 32 := Scalar.select v466 v467 v461
  let c1_i32_361 : BitVec 32 := 1#32
  let v471 : BitVec 32 := Scalar.muli v468 c1_i32_361
  let v472 : BitVec 32 := Scalar.addi c0_i32_362 v471
  v472.toNat
abbrev stage0_0 : Fin 1 → Memref sig .tc .vmem S2048x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S16384x256 : Shape := ⟨2, ![16384, 256]⟩
abbrev S512 : Shape := ⟨1, ![512]⟩
abbrev S_ : Shape := ⟨0, ![]⟩
abbrev S512x1 : Shape := ⟨2, ![512, 1]⟩
abbrev S512x256 : Shape := ⟨2, ![512, 256]⟩

abbrev nBuf : Space → Nat
  | .hbm => 12
  | .vmem => 0
  | .smem => 0
  | _ => 0

abbrev bufTy : (tb : Table) → Fin (tcTables nBuf tb) → BufTy
  | .hbm, ⟨0, _⟩ => ⟨S16384x256, .bf16⟩
  | .hbm, ⟨1, _⟩ => ⟨S512, .i32⟩
  | .hbm, ⟨2, _⟩ => ⟨S16384x256, .f32⟩
  | .hbm, ⟨3, _⟩ => ⟨S_, .i32⟩
  | .hbm, ⟨4, _⟩ => ⟨S512, .i32⟩
  | .hbm, ⟨5, _⟩ => ⟨S512, .i1⟩
  | .hbm, ⟨6, _⟩ => ⟨S_, .i32⟩
  | .hbm, ⟨7, _⟩ => ⟨S512, .i32⟩
  | .hbm, ⟨8, _⟩ => ⟨S512, .i32⟩
  | .hbm, ⟨9, _⟩ => ⟨S512, .i32⟩
  | .hbm, ⟨10, _⟩ => ⟨S512x1, .i32⟩
  | .hbm, ⟨11, _⟩ => ⟨S512x256, .f32⟩
  | _, _ => ⟨S16384x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Proof.Contents.lean ====
/-
The devices, the buffers and what each buffer comes to hold.

Eight devices hold 2048 rows of the table each. Device `c` forms `part c`, the 512 x 256 matrix whose row `i` is the
table row number `idx i` if that row is one of its own and zero otherwise. Chunk `q` of a 512 x 256 matrix is its rows
`64 q .. 64 q + 63`. Device `c` collects chunk `c` of every device's `part` in its eight landing slots (`rsBuf c`), adds
them up, and the sums of all devices, chunk by chunk, make `agBuf`, the same on every device.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.Pipeline.Value
public import Idealize.ShloMosaic.Lib.ValueIdxCore
public import Idealize.ShloMosaic.Lib.Tactic

@[expose] public section

noncomputable section

namespace Cert.Lookup

open Cert.KernelIdeal Cert.KernelIdeal.Gen

open Idealize.ShloMosaic
open Idealize.ShloMosaic.TcCoe
open Idealize.ShloMosaic.ValueIdx

variable {F : FTy → Type} [FloatOps F]

variable (m : (ℓ : Loc nD τ sig) → Buf (Elt F) ℓ) (ρ : Dev nD → PrngReg)

/-- The memory at launch: any contents, every counter zero. -/
def s₀ : MemSt nD τ sig (Elt F) := ⟨m, fun _ => 0, ρ⟩

/-! ## Peers

`Dev nD` is `Fin 8`, and `c + t` is the device `t` places further round the ring. -/

theorem add_neg (c t : Dev nD) : c + t + -t = c := by revert c t; decide
theorem neg_neg' (t : Dev nD) : - -t = t := by revert t; decide
theorem neg_ne_zero' {t : Dev nD} (h : t ≠ 0) : -t ≠ 0 := by revert t; decide

/-- The printed device numbers: the seven signals, the seven transfers of each exchange, in order. -/
theorem dev1 (c : Dev nD) : (⟨k0_dev1 c, k0_dev1_lt c⟩ : Dev nD) = c + 1 := by revert c; decide
theorem dev2 (c : Dev nD) : (⟨k0_dev2 c, k0_dev2_lt c⟩ : Dev nD) = c + 2 := by revert c; decide
theorem dev3 (c : Dev nD) : (⟨k0_dev3 c, k0_dev3_lt c⟩ : Dev nD) = c + 3 := by revert c; decide
theorem dev4 (c : Dev nD) : (⟨k0_dev4 c, k0_dev4_lt c⟩ : Dev nD) = c + 4 := by revert c; decide
theorem dev5 (c : Dev nD) : (⟨k0_dev5 c, k0_dev5_lt c⟩ : Dev nD) = c + 5 := by revert c; decide
theorem dev6 (c : Dev nD) : (⟨k0_dev6 c, k0_dev6_lt c⟩ : Dev nD) = c + 6 := by revert c; decide
theorem dev7 (c : Dev nD) : (⟨k0_dev7 c, k0_dev7_lt c⟩ : Dev nD) = c + 7 := by revert c; decide
theorem dev8 (c : Dev nD) : (⟨k0_dev8 c, k0_dev8_lt c⟩ : Dev nD) = c + 1 := by revert c; decide
theorem dev9 (c : Dev nD) : (⟨k0_dev9 c, k0_dev9_lt c⟩ : Dev nD) = c + 2 := by revert c; decide
theorem dev10 (c : Dev nD) : (⟨k0_dev10 c, k0_dev10_lt c⟩ : Dev nD) = c + 3 := by revert c; decide
theorem dev11 (c : Dev nD) : (⟨k0_dev11 c, k0_dev11_lt c⟩ : Dev nD) = c + 4 := by revert c; decide
theorem dev12 (c : Dev nD) : (⟨k0_dev12 c, k0_dev12_lt c⟩ : Dev nD) = c + 5 := by revert c; decide
theorem dev13 (c : Dev nD) : (⟨k0_dev13 c, k0_dev13_lt c⟩ : Dev nD) = c + 6 := by revert c; decide
theorem dev14 (c : Dev nD) : (⟨k0_dev14 c, k0_dev14_lt c⟩ : Dev nD) = c + 7 := by revert c; decide
theorem dev15 (c : Dev nD) : (⟨k0_dev15 c, k0_dev15_lt c⟩ : Dev nD) = c + 1 := by revert c; decide
theorem dev16 (c : Dev nD) : (⟨k0_dev16 c, k0_dev16_lt c⟩ : Dev nD) = c + 2 := by revert c; decide
theorem dev17 (c : Dev nD) : (⟨k0_dev17 c, k0_dev17_lt c⟩ : Dev nD) = c + 3 := by revert c; decide
theorem dev18 (c : Dev nD) : (⟨k0_dev18 c, k0_dev18_lt c⟩ : Dev nD) = c + 4 := by revert c; decide
theorem dev19 (c : Dev nD) : (⟨k0_dev19 c, k0_dev19_lt c⟩ : Dev nD) = c + 5 := by revert c; decide
theorem dev20 (c : Dev nD) : (⟨k0_dev20 c, k0_dev20_lt c⟩ : Dev nD) = c + 6 := by revert c; decide
theorem dev21 (c : Dev nD) : (⟨k0_dev21 c, k0_dev21_lt c⟩ : Dev nD) = c + 7 := by revert c; decide

/-- The printed row offset of the chunk for the peer `r + 1` places on. -/
theorem off2 (c : Dev nD) (r : Fin 7) : k0_off2 c (BitVec.ofNat 32 (r.val + 1)) = ![64 * (c + (⟨r.val + 1, by omega⟩ : Fin 8) : Dev nD).val, 0] := by
  revert c r; decide

/-! ## Chunks and slots -/

theorem row_inb (q : Dev nD) : ∀ a, (![64 * q.val, 0] : Fin 2 → ℕ) a + S64x256.size a ≤ S512x256.size a := by revert q; decide
theorem slot_inb (s : Dev nD) : ∀ a, (![s.val, 0, 0] : Fin 3 → ℕ) a + S1x64x256.size a ≤ S8x64x256.size a := by revert s; decide

/-- Rows `64 q .. 64 q + 63` of a 512 x 256 matrix. -/
abbrev rowRect (q : Dev nD) : Rect S512x256 := Rect.unit (s := S512x256) ![64 * q.val, 0] S64x256.size (row_inb q)
/-- Slot `s` of the eight landing slots. -/
abbrev slotRect (s : Dev nD) : Rect S8x64x256 := Rect.unit (s := S8x64x256) ![s.val, 0, 0] S1x64x256.size (slot_inb s)

def rowSet (q : Dev nD) : Finset S512x256.Idx := (rowRect q).set
def slotSet (s : Dev nD) : Finset S8x64x256.Idx := (slotRect s).set

theorem row_disjoint (q q' : Dev nD) (h : q ≠ q') : Disjoint (rowSet q) (rowSet q') :=
  Ring.lead_disjoint (s := S512x256) (0 : Fin 2) 64 (fun q : Fin 8 => ![64 * q.val, 0]) S64x256.size row_inb (fun _ => rfl) rfl q q' h
theorem row_cover : Finset.univ.biUnion rowSet = Finset.univ :=
  Ring.lead_cover (s := S512x256) (0 : Fin 2) 64 (fun q : Fin 8 => ![64 * q.val, 0]) S64x256.size row_inb (fun _ => rfl)
    (fun q a h => by fin_cases a <;> first | rfl | exact absurd rfl h) rfl (fun a h => by fin_cases a <;> first | rfl | exact absurd rfl h) rfl
theorem slot_disjoint (s s' : Dev nD) (h : s ≠ s') : Disjoint (slotSet s) (slotSet s') :=
  Ring.lead_disjoint (s := S8x64x256) (0 : Fin 3) 1 (fun q : Fin 8 => ![q.val, 0, 0]) S1x64x256.size slot_inb (fun b => (Nat.one_mul _).symm) rfl s s' h
theorem slot_cover : Finset.univ.biUnion slotSet = Finset.univ :=
  Ring.lead_cover (s := S8x64x256) (0 : Fin 3) 1 (fun q : Fin 8 => ![q.val, 0, 0]) S1x64x256.size slot_inb (fun b => (Nat.one_mul _).symm)
    (fun q a h => by fin_cases a <;> first | rfl | exact absurd rfl h) rfl (fun a h => by fin_cases a <;> first | rfl | exact absurd rfl h) rfl

/-! ## Contents -/

/-- Device `c`'s 2048 rows of the table, as its launch stages them. -/
def tab (c : Dev nD) : (cc0_stg0_0 : Ref sig .tc).ty.Contents (Elt F) :=
  (win0_0.blk (0 : Fin 1)).view.read (Elt F) ((s₀ m ρ).mem ((c : Thread nD τ).loc main_arg0))
/-- The indices, as device `c`'s launch stages them. -/
def ids (c : Dev nD) : (cc0_stg1_0 : Ref sig .tc).ty.Contents (Elt F) :=
  (win0_1.blk (0 : Fin 1)).view.read (Elt F) ((s₀ m ρ).mem ((c : Thread nD τ).loc main_arg1))

/-- Device `c`'s own contribution to every row of the result. -/
def part (c : Dev nD) : Vec F S512x256 .bf16 := k0_pay1 c (ids m ρ c) (tab m ρ c)

theorem row_lt (q : Dev nD) (j : Fin 64) : 64 * q.val + j.val < 512 := by have := q.isLt; have : q.val < 8 := q.isLt; omega

/-- The slot an element of the landing slots lies in, the row within it, and the chunk and row of an element of a matrix. -/
def slotOf (i : S8x64x256.Idx) : Dev nD := i 0
theorem idx0_lt (i : S512x256.Idx) : (i 0).val < 512 := (i 0).isLt
def chunkOf (i : S512x256.Idx) : Dev nD := (⟨(i 0).val / 64, by have := idx0_lt i; omega⟩ : Fin 8)
def rowIn (i : S512x256.Idx) : Fin 64 := ⟨(i 0).val % 64, Nat.mod_lt _ (by decide)⟩

/-- The contributions of all devices to chunk `c`, slot `s` that of the device `s` places on. -/
def rsBuf (c : Dev nD) : Vec F S8x64x256 .bf16 := fun i =>
  part m ρ (c + slotOf i) (ix2 ⟨64 * c.val + (i 1 : Fin 64).val, row_lt c (i 1)⟩ (i 2 : Fin 256))

/-- The sums, chunk by chunk. -/
def agBuf : Vec F S512x256 .bf16 := fun i => k0_pay3 (rsBuf m ρ (chunkOf i)) (ix2 (rowIn i) (i 1 : Fin 256))

/-! ## The memrefs -/

abbrev partM : Memref sig .tc .vmem S512x256 .bf16 := Memref.whole cc0_scratch0
abbrev rsM : Memref sig .tc .vmem S8x64x256 .bf16 := Memref.whole cc0_scratch1
abbrev agM : Memref sig .tc .vmem S512x256 .bf16 := Memref.whole cc0_scratch2

abbrev partC (q : Dev nD) : Memref sig .tc .vmem S64x256 .bf16 := partM.slice (rowRect q) (fun _ => rfl)
abbrev agC (q : Dev nD) : Memref sig .tc .vmem S64x256 .bf16 := agM.slice (rowRect q) (fun _ => rfl)
abbrev rsC (s : Dev nD) : Memref sig .tc .vmem S64x256 .bf16 :=
  (rsM.slice (slotRect s) (fun _ => rfl)).squeeze S64x256 squeezes_S1x64x256_S64x256

theorem set_partC (q : Dev nD) : (partC q).view.set = rowSet q := View.set_slice_whole _ _
theorem set_agC (q : Dev nD) : (agC q).view.set = rowSet q := View.set_slice_whole _ _
theorem set_rsC (s : Dev nD) : (rsC s).view.set = slotSet s := (View.set_reshape (v := rsM.view.slice (slotRect s)) _).trans (View.set_slice_whole _ _)

/-- One transfer's credit. -/
abbrev N : ℕ := (partC 0).view.dmaCredit
theorem N_pos : 0 < N := View.dmaCredit_pos _ (by decide)
theorem credit_rsC (s : Dev nD) : (rsC s).view.dmaCredit = N := rfl
theorem credit_partC (s : Dev nD) : (partC s).view.dmaCredit = N := rfl
theorem credit_agC (s : Dev nD) : (agC s).view.dmaCredit = N := rfl

/-! ## Where an element of a chunk or slot sits -/

theorem emb_partC (q : Dev nD) (x : S64x256.Idx) : (partC q).view.emb x = ix2 ⟨64 * q.val + (x 0 : Fin 64).val, row_lt q (x 0)⟩ (x 1 : Fin 256) := by
  funext a
  match a with
  | ⟨0, _⟩ => exact Fin.ext (show _ + 1 * _ = _ by rw [Nat.one_mul]; rfl)
  | ⟨1, _⟩ => exact Fin.ext (show 0 + 1 * _ = _ by rw [Nat.one_mul, Nat.zero_add]; rfl)

theorem emb_agC (q : Dev nD) (x : S64x256.Idx) : (agC q).view.emb x = ix2 ⟨64 * q.val + (x 0 : Fin 64).val, row_lt q (x 0)⟩ (x 1 : Fin 256) :=
  emb_partC q x

theorem emb_rsC (s : Dev nD) (x : S64x256.Idx) : (rsC s).view.emb x = ix3 (s : Fin 8) (x 0 : Fin 64) (x 1 : Fin 256) := by
  show (rsM.view.slice (slotRect s)).emb (Shape.reshapeEquiv _ x) = _
  rw [Shape.reshapeEquiv_cons_one]
  funext a
  match a with
  | ⟨0, _⟩ => exact Fin.ext (show _ + 1 * 0 = _ by rw [Nat.mul_zero]; rfl)
  | ⟨1, _⟩ => exact Fin.ext (show 0 + 1 * _ = _ by rw [Nat.one_mul, Nat.zero_add]; rfl)
  | ⟨2, _⟩ => exact Fin.ext (show 0 + 1 * _ = _ by rw [Nat.one_mul, Nat.zero_add]; rfl)

/-! ## What a transfer or a store leaves

Each lemma says what the named elements hold; elements elsewhere are not spoken of. -/

/-- Device `c`'s chunk `c + t`, landed in slot `-t` of device `c + t`. -/
theorem land_rs (c t : Dev nD) (fd : (rsC (-t)).view.ty.Contents (Elt F)) (i : S8x64x256.Idx) (hi : i ∈ slotSet (-t)) :
    (rsC (-t)).view.write (Elt F) fd ((partC (c + t)).view.read (Elt F) (part m ρ c)) Finset.univ i = rsBuf m ρ (c + t) i := by
  rw [← set_rsC] at hi
  obtain ⟨x, -, rfl⟩ := Finset.mem_map.mp hi
  rw [View.write_emb_of_mem _ _ (Finset.mem_univ _), View.read_apply, emb_partC, emb_rsC]
  show part m ρ c _ = part m ρ (c + t + -t) _
  rw [add_neg]; rfl

/-- The same, read off the receiver: a chunk of sums landed in its own place. -/
theorem land_ag (q : Dev nD) (fd f : (agC q).view.ty.Contents (Elt F)) (i : S512x256.Idx) (hi : i ∈ rowSet q) :
    (agC q).view.write (Elt F) fd ((agC q).view.read (Elt F) f) Finset.univ i = f i := by
  rw [← set_agC] at hi
  obtain ⟨x, -, rfl⟩ := Finset.mem_map.mp hi
  rw [View.write_emb_of_mem _ _ (Finset.mem_univ _), View.read_apply]; rfl

/-- Device `c`'s own chunk of sums, stored. -/
theorem store_ag (c : Dev nD) (f : (agM.access (rowRect c)).ty.Contents (Elt F)) (i : S512x256.Idx) (hi : i ∈ rowSet c) :
    (agM.access (rowRect c)).write (Elt F) f (k0_pay3 (rsBuf m ρ c)) Finset.univ i = agBuf m ρ i := by
  rw [← set_agC] at hi
  obtain ⟨x, -, rfl⟩ := Finset.mem_map.mp hi
  refine (View.write_emb_of_mem (v := agM.access (rowRect c)) f _ (Finset.mem_univ x)).trans ?_
  rw [emb_agC]
  have hx : (x 0).val < 64 := (x 0).isLt
  have hc : chunkOf (ix2 ⟨64 * c.val + (x 0 : Fin 64).val, row_lt c (x 0)⟩ (x 1 : Fin 256)) = c :=
    Fin.ext (show (64 * c.val + (x 0).val) / 64 = c.val by omega)
  have hr : ix2 (rowIn (ix2 ⟨64 * c.val + (x 0 : Fin 64).val, row_lt c (x 0)⟩ (x 1 : Fin 256))) (x 1 : Fin 256) = x := by
    funext a
    match a with
    | ⟨0, _⟩ => exact Fin.ext (show (64 * c.val + (x 0).val) % 64 = (x 0).val by omega)
    | ⟨1, _⟩ => rfl
  exact ((congrArg (fun q => k0_pay3 (rsBuf m ρ q) (ix2 (rowIn (ix2 ⟨64 * c.val + (x 0 : Fin 64).val, row_lt c (x 0)⟩ (x 1 : Fin 256))) (x 1 : Fin 256))) hc).trans
    (congrArg (k0_pay3 (rsBuf m ρ c)) hr)).symm

/-- A 64 x 256 matrix `V` stored in slot 0. -/
theorem store_slot (V : Vec F S64x256 .bf16) (f : (rsM.access (slotRect 0)).ty.Contents (Elt F)) (x : S64x256.Idx) :
    (rsM.access (slotRect 0)).write (Elt F) f (k0_pay2 V) Finset.univ ((rsC 0).view.emb x) = V x :=
  (View.write_emb_of_mem (v := rsM.access (slotRect 0)) f (k0_pay2 V)
    (Finset.mem_univ (Shape.reshapeEquiv squeezes_S1x64x256_S64x256.numel_eq x))).trans
    ((cast_eq _ _).trans (shapeCast_apply V shapeCasts_S64x256_S1x64x256 _ x (Shape.rowMajor_reshapeEquiv _ _).symm))

/-- Device `c`'s own chunk of its contribution, read back and stored in slot 0. -/
theorem store_rs (c : Dev nD) (f : (rsM.access (slotRect 0)).ty.Contents (Elt F)) (i : S8x64x256.Idx) (hi : i ∈ slotSet 0) :
    (rsM.access (slotRect 0)).write (Elt F) f (k0_pay2 (partM.view.readAt (Elt F) (rowRect c).toLoadRect (part m ρ c))) Finset.univ i = rsBuf m ρ c i := by
  rw [← set_rsC] at hi
  obtain ⟨x, -, rfl⟩ := Finset.mem_map.mp hi
  have h0 : c + 0 = c := by revert c; decide
  refine (store_slot _ f x).trans ?_
  rw [emb_rsC]
  show part m ρ c ((partC c).view.emb x) = part m ρ (c + 0) _
  rw [emb_partC, h0]; rfl

/-! ## Whole-buffer loads and stores -/

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

end Cert.Lookup

end
-- ==== Proof.Schedule.lean ====
/-
The semaphores of the launch: who raises which, by how much, and what each raise hands over.

Every semaphore is used for one round. Write `c + t` for the device `t` places on from `c`, counted modulo eight.
* The barrier of device `c` is raised by one by each of the other seven devices. The device `c + u` hands over with its
  raise the landing slot and the chunk of its own buffers that `c` is going to write: slot `-u` of its landing slots
  and chunk `c` of its sums. `c` waits once, for seven.
* Kind 0, slot `t` on `c`: the copy of chunk `c + t` of `part c` has left; the chunk comes back.
* Kind 1, slot `s` on `c`: chunk `c` of `part (c + s)` has landed in slot `s`.
* Kind 2, slot `t` on `c`: the copy of chunk `c` of the sums to `c + t` has left; the share of the chunk it was read
  through comes back.
* Kind 3, slot `s` on `c`: chunk `c + s` of the sums has landed.
Slot 0 of each kind is not used.
-/
module

public import proofs.«01_k».proof.Proof.Contents
public import Idealize.ShloMosaic.Lib.Transfers

@[expose] public section

noncomputable section

namespace Cert.Lookup

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources: the staging's rounds beside this launch's own, whose raises are named by device offsets -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The cells -/

/-- The launch's barrier semaphore, which is not scoped to it. -/
abbrev barS : Sem sig := (SemArray.scalar (sig.barrier 0 rfl) : Sems sig S_).sem

set_option backward.proofsInPublic true in
/-- The semaphore of kind `j` and slot `s`. -/
def dsem (j : Fin 4) (s : Dev nD) : DmaSem sig := ⟨3 + (s.val + 8 * j.val), by have : s.val < 8 := s.isLt; show _ < 35; omega⟩

set_option backward.proofsInPublic true in
/-- The kind and slot of a semaphore that is not one of the staging's three. -/
def decode (q : DmaSem sig) : Option (Fin 4 × Dev nD) :=
  if h : 3 ≤ q.val then some (⟨(q.val - 3) / 8, by have : q.val < 35 := q.isLt; omega⟩, (⟨(q.val - 3) % 8, by omega⟩ : Fin 8)) else none

theorem decode_dsem (j : Fin 4) (s : Dev nD) : decode (dsem j s) = some (j, s) := by revert j s; decide

theorem dsem_inj {j j' : Fin 4} {s s' : Dev nD} (h : dsem j s = dsem j' s') : j = j' ∧ s = s' := by
  have := congrArg decode h; rw [decode_dsem, decode_dsem] at this
  exact Prod.mk.inj (Option.some.inj this)

abbrev barCell (c : Dev nD) : GSem nD τ sig := ((c : Thread nD τ), .reg barS)
abbrev dcell (j : Fin 4) (c s : Dev nD) : GSem nD τ sig := ((c : Thread nD τ), .dma (dsem j s))

/-- A device's cells: its barrier, and its four kinds of eight. -/
abbrev CI : Type := Unit ⊕ (Fin 4 × Dev nD)
abbrev csem : CI → SemLoc sig := Sum.elim (fun _ => .reg barS) (fun js => .dma (dsem js.1 js.2))
abbrev kcell (ck : Dev nD × CI) : GSem nD τ sig := ((ck.1 : Thread nD τ), csem ck.2)

/-! ## Pieces of the three buffers -/

abbrev partPts (c q : Dev nD) (f : Vec F S512x256 .bf16) : sProp 𝕄 := (c : Thread nD τ).loc cc0_scratch0 ↦[rowSet q]{fullShare} f
abbrev rsPts (c s : Dev nD) (f : Vec F S8x64x256 .bf16) : sProp 𝕄 := (c : Thread nD τ).loc cc0_scratch1 ↦[slotSet s]{fullShare} f
abbrev agPts (c q : Dev nD) (sh : PosShare TreeShare) (f : Vec F S512x256 .bf16) : sProp 𝕄 := (c : Thread nD τ).loc cc0_scratch2 ↦[rowSet q]{sh} f

/-- The share of its own chunk of sums that a device's copy to the device `t` places on reads through. -/
abbrev tok (t : Dev nD) : PosShare TreeShare := Transfers.shareTok fullShare 8 t

/-! ## The raises -/

/-- Every offset but none. -/
def from' (n : ℕ) : Finset (Dev nD) := Finset.univ.filter fun t => n ≤ t.val
/-- The offsets from one up to `n`, `n` not included. -/
def below (n : ℕ) : Finset (Dev nD) := Finset.univ.filter fun t => 1 ≤ t.val ∧ t.val < n

/-- What the device `u` places on hands `c` with its raise of `c`'s barrier. -/
def barPay (c u : Dev nD) : sProp 𝕄 := iprop((∃ f, rsPts (c + u) (-u) f) ∗ ∃ f, agPts (c + u) c fullShare f)

/-- What the raise of the cell of kind `j` and slot `s` hands `c`. -/
def xPay (j : Fin 4) (c s : Dev nD) : sProp 𝕄 :=
  match j with
  | 0 => partPts c (c + s) (part m ρ c)
  | 1 => rsPts c s (rsBuf m ρ c)
  | 2 => agPts c c (tok s) (agBuf m ρ)
  | 3 => agPts c (c + s) fullShare (agBuf m ρ)

instance barPay_storable (c u : Dev nD) : BI.Storable (upEmb : UEmb _ 𝕄) (barPay (F := F) c u) := by unfold barPay; infer_instance
instance xPay_storable (j : Fin 4) (c s : Dev nD) : BI.Storable (upEmb : UEmb _ 𝕄) (xPay (F := F) m ρ j c s) := by
  unfold xPay; split <;> infer_instance

/-- Which raises a semaphore expects, -/
def dutiesOf : SemLoc sig → Finset (Dev nD)
  | .reg s => if s = barS then from' 1 else ∅
  | .dma q => match decode q with
    | some (_, s) => if s = 0 then ∅ else {0}
    | none => ∅
/-- and what raise `d` of it hands device `c`. -/
def payOf (c : Dev nD) (d : Dev nD) : SemLoc sig → sProp 𝕄
  | .reg _ => barPay c d
  | .dma q => match decode q with
    | some (j, s) => xPay m ρ j c s
    | none => iprop(emp)

/-- The schedule of the launch: one round. -/
def Rd : Rounds.Schedule (GSem nD τ sig) (Dev nD) 𝕄 where
  duties g r := if r = 0 ∧ g.1.2 = .tc then dutiesOf g.2 else ∅
  unitless _ := False
  amount g _ _ := match g.2 with | .reg _ => 1 | .dma _ => N
  payload g _ d := payOf m ρ g.1.1 d g.2
  amount_pos g _ _ _ := by
    rcases g with ⟨_, _ | _⟩
    · exact Nat.one_pos
    · exact N_pos

instance Rd_payload_storable (g : GSem nD τ sig) (r : ℕ) (d : Dev nD) :
    BI.Storable (upEmb : UEmb _ 𝕄) ((Rd (F := F) m ρ).payload g r d) := by
  show BI.Storable upEmb (payOf m ρ g.1.1 d g.2)
  unfold payOf
  (repeat' split) <;> infer_instance

section Sched
variable (c : Dev nD)

theorem duties_bar : (Rd (F := F) m ρ).duties (barCell c) 0 = from' 1 := by
  dsimp only [Rd, dutiesOf]; rw [if_pos ⟨rfl, rfl⟩]; exact if_pos rfl
theorem duties_d (j : Fin 4) (s : Dev nD) : (Rd (F := F) m ρ).duties (dcell j c s) 0 = if s = 0 then ∅ else {0} := by
  dsimp only [Rd, dutiesOf]; rw [if_pos ⟨rfl, rfl⟩, decode_dsem]
theorem duties_later (g : GSem nD τ sig) : ∀ r, 1 ≤ r → (Rd (F := F) m ρ).duties g r = ∅ :=
  fun r hr => by dsimp only [Rd]; exact if_neg fun h => by omega
theorem mem_duties_d (j : Fin 4) {s : Dev nD} (h : s ≠ 0) : (0 : Dev nD) ∈ (Rd (F := F) m ρ).duties (dcell j c s) 0 := by
  rw [duties_d, if_neg h]; exact Finset.mem_singleton_self _

theorem amount_bar (d : Dev nD) : (Rd (F := F) m ρ).amount (barCell c) 0 d = 1 := rfl
theorem amount_d (j : Fin 4) (s d : Dev nD) : (Rd (F := F) m ρ).amount (dcell j c s) 0 d = N := rfl

theorem expect_bar : (Rd (F := F) m ρ).expect (barCell c) 0 = 7 := by
  unfold Schedule.expect Schedule.amountOf
  rw [duties_bar, Finset.sum_congr rfl fun d _ => amount_bar m ρ c d]; decide
theorem expect_d (j : Fin 4) {s : Dev nD} (h : s ≠ 0) : (Rd (F := F) m ρ).expect (dcell j c s) 0 = N := by
  unfold Schedule.expect Schedule.amountOf; rw [duties_d, if_neg h, Finset.sum_singleton, amount_d]

theorem payload_bar (d : Dev nD) : (Rd (F := F) m ρ).payload (barCell c) 0 d = barPay c d := rfl
theorem payload_d (j : Fin 4) (s d : Dev nD) : (Rd (F := F) m ρ).payload (dcell j c s) 0 d = xPay m ρ j c s := by
  dsimp only [Rd, payOf]; rw [decode_dsem]

theorem rest_bar : bigSep ((Rd (F := F) m ρ).duties (barCell c) 0 \ ∅) (fun d => (Rd (F := F) m ρ).payload (barCell c) 0 d) = bigSep (from' 1) (fun u => barPay c u) := by
  rw [Finset.sdiff_empty, duties_bar]; rfl
theorem rest_d (j : Fin 4) {s : Dev nD} (h : s ≠ 0) :
    bigSep ((Rd (F := F) m ρ).duties (dcell j c s) 0 \ ∅) (fun d => (Rd (F := F) m ρ).payload (dcell j c s) 0 d) = xPay m ρ j c s := by
  rw [Finset.sdiff_empty, duties_d, if_neg h, bigSep_singleton, payload_d]

end Sched

/-! ## Taking the offsets one at a time -/

theorem ne_zero_of {t : Dev nD} {n : ℕ} (h : t.val = n + 1) : t ≠ 0 := fun h' => by rw [h'] at h; exact absurd h (Nat.succ_ne_zero n).symm
theorem from'_notMem (t : Dev nD) : t ∉ from' (t.val + 1) := by revert t; decide
theorem from'_peel (t : Dev nD) : from' t.val = insert t (from' (t.val + 1)) := by revert t; decide
theorem below_notMem (t : Dev nD) : t ∉ below t.val := by revert t; decide
theorem below_peel (t : Dev nD) (h : t ≠ 0) : below (t.val + 1) = insert t (below t.val) := by revert t; decide
theorem from'_eight : from' 8 = ∅ := by decide
theorem below_one : below 1 = ∅ := by decide
theorem below_eight : below 8 = from' 1 := by decide
theorem univ_peel : (Finset.univ : Finset (Dev nD)) = insert 0 (from' 1) := by decide
theorem zero_notMem : (0 : Dev nD) ∉ from' 1 := by decide

omit [FloatOps F] in
theorem bigSep_from' (t : Dev nD) (Φ : Dev nD → sProp 𝕄) : bigSep (from' t.val) Φ = iprop(Φ t ∗ bigSep (from' (t.val + 1)) Φ) := by
  rw [from'_peel, bigSep_insert (from'_notMem t)]; rfl
omit [FloatOps F] in
theorem bigSep_below (t : Dev nD) (h : t ≠ 0) (Φ : Dev nD → sProp 𝕄) : bigSep (below (t.val + 1)) Φ = iprop(Φ t ∗ bigSep (below t.val) Φ) := by
  rw [below_peel t h, bigSep_insert (below_notMem t)]; rfl
omit [FloatOps F] in
theorem bigSep_offsets (Φ : Dev nD → sProp 𝕄) : bigSep Finset.univ Φ = iprop(Φ 0 ∗ bigSep (from' 1) Φ) := by
  rw [univ_peel, bigSep_insert zero_notMem]; rfl

/-! ## What a device owes, and the order of the waits -/

/-- What device `c` owes with the raises for the offsets from `nA`, `nR` and `nB` on still to come: of the landings of
    the sums, of the landings of the contributions, of the barriers. -/
def Os (c : Dev nD) (nA nR nB : ℕ) : CellTallies nD τ sig Unit :=
  (∑ t ∈ from' nA, tallyAt (dcell 3 (c + t) (-t)) () N) + (∑ t ∈ from' nR, tallyAt (dcell 1 (c + t) (-t)) () N) + ∑ t ∈ from' nB, tallyAt (barCell (c + t)) () 1

theorem Os_bar (c t : Dev nD) (nA nR : ℕ) : Os c nA nR t.val = Os c nA nR (t.val + 1) + tallyAt (barCell (c + t)) () 1 := by
  unfold Os; rw [from'_peel t, Finset.sum_insert (from'_notMem t), add_comm (tallyAt (barCell (c + t)) () 1), ← add_assoc]
theorem Os_rs (c t : Dev nD) (nA : ℕ) : Os c nA t.val 8 = Os c nA (t.val + 1) 8 + tallyAt (dcell 1 (c + t) (-t)) () N := by
  unfold Os; rw [from'_eight, Finset.sum_empty, add_zero, add_zero, from'_peel t, Finset.sum_insert (from'_notMem t),
    add_comm (tallyAt (dcell 1 (c + t) (-t)) () N), ← add_assoc]
theorem Os_ag (c t : Dev nD) : Os c t.val 8 8 = Os c (t.val + 1) 8 8 + tallyAt (dcell 3 (c + t) (-t)) () N := by
  unfold Os; rw [from'_eight, Finset.sum_empty, Finset.sum_empty, add_zero, add_zero, add_zero, add_zero, from'_peel t, Finset.sum_insert (from'_notMem t),
    add_comm (tallyAt (dcell 3 (c + t) (-t)) () N)]
theorem Os_done (c : Dev nD) : Os c 8 8 8 = 0 := by
  unfold Os; rw [from'_eight, Finset.sum_empty, Finset.sum_empty, Finset.sum_empty, add_zero, add_zero]

theorem sum_pos {S : Finset (Dev nD)} {T : Dev nD → CellTallies nD τ sig Unit} {g : GSem nD τ sig} {u : Unit}
    (h : 0 < (∑ t ∈ S, T t) g u) : ∃ t ∈ S, 0 < T t g u := by
  rw [Finset.sum_apply, Finsupp.finset_sum_apply] at h
  by_contra hn; push Not at hn
  exact absurd (Finset.sum_eq_zero fun t ht => Nat.le_zero.mp (hn t ht)) (Nat.pos_iff_ne_zero.mp h)

theorem tally_pos {g' g : GSem nD τ sig} {u : Unit} {k : ℕ} (h : 0 < (tallyAt g' () k : CellTallies nD τ sig Unit) g u) : g = g' := by
  rw [tallyAt_apply] at h; by_contra hn; rw [if_neg fun h' => hn h'.1] at h; exact Nat.lt_irrefl 0 h

theorem from'_lt {t : Dev nD} {n : ℕ} (h : t ∈ from' n) : n < 8 := by
  have := (Finset.mem_filter.mp h).2; have : t.val < 8 := t.isLt; omega

theorem pos_of_three (a b c : ℕ) (h : 0 < a + b + c) : 0 < a ∨ 0 < b ∨ 0 < c := by omega

theorem Os_pos {c : Dev nD} {nA nR nB : ℕ} {g : GSem nD τ sig} {u : Unit} (h : 0 < Os c nA nR nB g u) :
    (∃ t, g = dcell 3 (c + t) (-t)) ∨ (nR < 8 ∧ ∃ t, g = dcell 1 (c + t) (-t)) ∨ (nB < 8 ∧ ∃ t, g = barCell (c + t)) := by
  unfold Os at h
  rw [Pi.add_apply, Finsupp.add_apply, Pi.add_apply, Finsupp.add_apply] at h
  rcases pos_of_three _ _ _ h with h | h | h
  · obtain ⟨t, _, ht⟩ := sum_pos h; exact .inl ⟨t, tally_pos ht⟩
  · obtain ⟨t, hm, ht⟩ := sum_pos h; exact .inr (.inl ⟨from'_lt hm, t, tally_pos ht⟩)
  · obtain ⟨t, hm, ht⟩ := sum_pos h; exact .inr (.inr ⟨from'_lt hm, t, tally_pos ht⟩)

def L (g : GSem nD τ sig) : Finset Unit := if g.1.2 = .tc then {()} else ∅

/-- Barriers below the landings of the contributions, these below the landings of the sums; everything else at the bottom. -/
def lvOf : SemLoc sig → ℕ
  | .reg _ => 1
  | .dma q => match decode q with
    | some (1, _) => 2
    | some (3, _) => 3
    | _ => 0
def lv (g : GSem nD τ sig) (_ : Unit) : ℕ := lvOf g.2

theorem lvOf_d (j : Fin 4) (s : Dev nD) : lvOf (.dma (dsem j s)) = ![0, 2, 0, 3] j := by
  dsimp only [lvOf]; rw [decode_dsem]; fin_cases j <;> rfl

theorem L_of_ne (g : GSem nD τ sig) (h : g.1.2 ≠ .tc) : L g = ∅ := if_neg h
theorem L_tc (c : Dev nD) (sm : SemLoc sig) : L ((c : Thread nD τ), sm) = {()} := if_pos rfl

omit [FloatOps F] in
/-- A device may wait on a semaphore at level `b` if what it owes lies higher. -/
theorem mayWait (c : Dev nD) (sm : SemLoc sig) (b nA nR nB : ℕ) (h : lvOf sm ≤ b) (hA : b < 3) (hR : nR < 8 → b < 2) (hB : nB < 8 → b < 1) :
    (levAts L lv : sProp 𝕄) ⊢ MayWait (c : Thread nD τ) sm () (Os c nA nR nB) := by
  refine MayOwe.of_cut (L := L) (lev := lv) b (fun p hp => by rw [Finset.mem_singleton.mp hp, L_tc]; exact Finset.mem_singleton_self _)
    (fun g u hg => by rcases Os_pos hg with ⟨t, rfl⟩ | ⟨_, t, rfl⟩ | ⟨_, t, rfl⟩ <;> exact Finset.mem_singleton_self _)
    (fun p hp => by rw [Finset.mem_singleton.mp hp]; exact h)
    (fun g u hg => ?_)
  rcases Os_pos hg with ⟨t, rfl⟩ | ⟨h8, t, rfl⟩ | ⟨h8, t, rfl⟩
  · show b < lvOf (.dma (dsem 3 (-t))); rw [lvOf_d]; exact hA
  · show b < lvOf (.dma (dsem 1 (-t))); rw [lvOf_d]; exact hR h8
  · exact hB h8

end Cert.Lookup

end
-- ==== Proof.Steps.lean ====
/-
One step of the launch at a time: a raise of a peer's barrier, the wait on the own one, a copy of either kind, a wait
for a copy. Each is stated between two states of the same form, that with the offsets from `n` on still to come and
that with `n` done.
-/
module

public import proofs.«01_k».proof.Proof.Schedule

@[expose] public section

noncomputable section

namespace Cert.Lookup

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The weakest precondition of a program of device `c`. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## What every device knows -/

/-- Every cell's invariant, under the name `K` gives it, and that every cell has reached its round. -/
def records (K : Dev nD × CI → ℕ) : sProp 𝕄 :=
  iprop((bigSep Finset.univ fun ck : Dev nD × CI => cellInv ER (Rd m ρ) (K ck) (kcell ck))
    ∗ bigSep Finset.univ fun ck : Dev nD × CI => reached ER (kcell ck) 0)

instance records_persistent (K : Dev nD × CI → ℕ) : BI.Persistent (records m ρ K) := by unfold records; infer_instance

variable (K : Dev nD × CI → ℕ)

theorem records_inv (ck : Dev nD × CI) : records m ρ K ⊢ cellInv ER (Rd m ρ) (K ck) (kcell ck) := by
  unfold records; exact sep_elim_left.trans (bigSep_elim (Finset.mem_univ ck))
theorem records_reached (ck : Dev nD × CI) : records m ρ K ⊢ reached ER (kcell ck) 0 := by
  unfold records; exact sep_elim_right.trans (bigSep_elim (Finset.mem_univ ck))

abbrev bk (c : Dev nD) : Dev nD × CI := (c, .inl ())
abbrev xk (j : Fin 4) (c s : Dev nD) : Dev nD × CI := (c, .inr (j, s))

/-- What device `c` owes, whatever it has waited on. -/
def ow (c : Dev nD) (O : CellTallies nD τ sig Unit) : sProp 𝕄 := iprop(∃ W, owes (c : Thread nD τ) O W)

/-! ## The barrier -/

/-- The raises of the barriers from offset `n` on still to come: what each pays with. -/
def sigSt (c : Dev nD) (n : ℕ) : sProp 𝕄 :=
  iprop(ow c (Os c 1 1 n)
    ∗ bigSep (from' n) fun t => iprop(dutyTok ER (barCell (c + t)) 0 (-t) ∗ (∃ f, rsPts c t f) ∗ ∃ f, agPts c (c + t) fullShare f))

theorem wp_sig (c t n : Dev nD) (hn : n = c + t) (ht : t ≠ 0) {α : Type} {Q : α → sProp 𝕄} {k : PUnit → Prog (TpuEff nD τ sig (Elt F) Λ₀ .tc) α} :
    iprop(records m ρ K ∗ sigSt c t.val) ⊢ iprop((sigSt c (t.val + 1) -∗ wpc c (k ⟨⟩) Q)
      -∗ wpc c (.op (.semSignal (n : Thread nD τ) barS (1#32).toInt) k) Q) := by
  subst hn
  unfold sigSt ow
  rw [bigSep_from']
  iintro ⟨#HR, ⟨%W, HO⟩, ⟨Ht, Hs, Ha⟩, Hrest⟩ Hk
  iapply (Rounds.wp_signal 𝒱₀ ER (Rd m ρ) (c : Thread nD τ) none (dst := (c + t : Dev nD)) (κ := K (bk (c + t))) (k' := 1)
      (d := -t) (by rw [duties_bar]; revert t; decide) (amount_bar m ρ (c + t) (-t)) () (Os c 1 1 (t.val + 1)) (Os_bar c t 1 1))
    $$ [HO Ht Hs Ha]
  · isplitr; · iapply (records_inv m ρ K (bk (c + t))); iexact HR
    isplitl [HO]; · iexact HO
    isplitl [Ht]; · iexact Ht
    isplitl [Hs Ha]
    · rw [payload_bar]; unfold barPay; rw [add_neg, neg_neg']
      isplitl [Hs] <;> iassumption
    iapply (records_reached m ρ K (bk (c + t))); iexact HR
  iintro HO
  iapply Hk
  isplitl [HO]; · iexists W; iexact HO
  iexact Hrest

theorem wp_barrier (c : Dev nD) {α : Type} {Q : α → sProp 𝕄} {k : PUnit → Prog (TpuEff nD τ sig (Elt F) Λ₀ .tc) α} :
    iprop(records m ρ K ∗ levAts L lv ∗ sigSt c 8 ∗ cred (tallyAt (barCell c) () 7) ∗ atPos ER (barCell c) 0 ∅ 0)
      ⊢ iprop(((ow c (Os c 1 1 8) ∗ atPos ER (barCell c) 1 ∅ 0 ∗ bigSep (from' 1) fun u => barPay c u) -∗ wpc c (k ⟨⟩) Q)
        -∗ wpc c (.op (.semWait barS (7#32).toInt) k) Q) := by
  unfold sigSt ow
  iintro ⟨#HR, #Hlev, ⟨⟨%W, HO⟩, -⟩, Hc, Hat⟩ Hk
  iapply (Rounds.wp_wait_rest_token 𝒱₀ ER (Rd m ρ) (c : Thread nD τ) none (κ := K (bk c)) (k' := 7)
      (wpE_semWait_eq 𝒱₀ (c : Thread nD τ) none Set.univ) (Set.mem_univ _) () (O := Os c 1 1 8) (W := W) (R := 0) (m := 0) (T := ∅)
      (by rw [expect_bar])) $$ [Hc HO Hat]
  · isplitr; · iapply (records_inv m ρ K (bk c)); iexact HR
    isplitl [Hc]; · iexact Hc
    isplitl [HO]; · iexact HO
    isplitr; · iapply (mayWait c (.reg barS) 1 1 1 8 le_rfl (by decide) (fun _ => by decide) (fun h => absurd h (by decide))); iexact Hlev
    iexact Hat
  iintro ⟨HO, Hat, -, Hpay⟩
  ihave Hp := (Entails.of_eq (rest_bar m ρ c)) $$ Hpay
  iapply Hk
  isplitl [HO]; · iexists _; iexact HO
  isplitl [Hat] <;> iassumption

/-! ## The copies of the contributions -/

/-- The copies of chunks of the contribution from offset `n` on still to come, the earlier ones under way. -/
def rsSt (c : Dev nD) (n : ℕ) : sProp 𝕄 :=
  iprop(ow c (Os c 1 n 8)
    ∗ (bigSep (from' n) fun t => iprop(dutyTok ER (dcell 0 c t) 0 0 ∗ dutyTok ER (dcell 1 (c + t) (-t)) 0 0 ∗ partPts c (c + t) (part m ρ c)
        ∗ ∃ f, rsPts (c + t) (-t) f))
    ∗ bigSep (below n) fun t => cred (tallyAt (dcell 0 c t) () N))

/-- A copy's source and destination. -/
abbrev partAt (o : Fin 2 → ℕ) (ho : ∀ a, o a + S64x256.size a ≤ S512x256.size a) : Memref sig .tc .vmem S64x256 .bf16 :=
  partM.slice (Rect.unit (s := S512x256) o S64x256.size ho) (fun _ => rfl)
abbrev agAt (o : Fin 2 → ℕ) (ho : ∀ a, o a + S64x256.size a ≤ S512x256.size a) : Memref sig .tc .vmem S64x256 .bf16 :=
  agM.slice (Rect.unit (s := S512x256) o S64x256.size ho) (fun _ => rfl)

theorem wp_rsend (c t n : Dev nD) (hn : n = c + t) (ht : t ≠ 0) (o : Fin 2 → ℕ) (ho : ∀ a, o a + S64x256.size a ≤ S512x256.size a)
    (ho' : o = ![64 * (c + t).val, 0])
    {hsc : (rsC (-t) : Memref sig (Dev.tc n : Thread nD τ).2.kind .vmem S64x256 .bf16).view.ref.isScScratch = false}
    {hsrc : (partAt o ho).view.WordExact} {hdst : (rsC (-t)).view.WordExact}
    {hsem : DmaTarget.Typed .vmem (.dma (dsem 1 (-t))) (.remote (Dev.tc n : Thread nD τ) (rsC (-t)) (.dma (dsem 0 t)) hsc)}
    {α : Type} {Q : α → sProp 𝕄} {k : PUnit → Prog (TpuEff nD τ sig (Elt F) Λ₀ .tc) α} :
    iprop(records m ρ K ∗ rsSt m ρ c t.val) ⊢ iprop((rsSt m ρ c (t.val + 1) -∗ wpc c (k ⟨⟩) Q)
      -∗ wpc c (.op (.enqueueDma (partAt o ho) (.remote (Dev.tc n : Thread nD τ) (rsC (-t)) (.dma (dsem 0 t)) hsc) (.dma (dsem 1 (-t))) hsrc hdst hsem) k) Q) := by
  subst hn ho'
  unfold rsSt ow
  rw [bigSep_from', bigSep_below t ht]
  iintro ⟨#HR, ⟨%W, HO⟩, ⟨⟨Ht0, Ht1, Hp, ⟨%f, Hf⟩⟩, Hrest⟩, Hc⟩ Hk
  have hp₁ : ((partC (c + t)).view.loc (c : Thread nD τ) ↦[(partC (c + t)).view.set]{fullShare} (part m ρ c) : sProp 𝕄)
      ⊢ (Rd m ρ).payload (dcell 0 c t) 0 0 := by rw [payload_d, set_partC]; exact BI.Entails.refl _
  have hp₂ : ((rsC (-t)).view.loc (c + t : Dev nD) ↦[(rsC (-t)).view.set]{fullShare}
        ((rsC (-t)).view.write (Elt F) f ((partC (c + t)).view.read (Elt F) (part m ρ c)) Finset.univ) : sProp 𝕄)
      ⊢ (Rd m ρ).payload (dcell 1 (c + t) (-t)) 0 0 := by
    rw [payload_d, set_rsC]; exact Entails.of_eq (pointsTo_congr fun i hi => land_rs m ρ c t f i hi)
  iapply (Rounds.wp_send_pointsTo 𝒱₀ ER (Rd m ρ) (c : Thread nD τ) none (c' := (c + t : Dev nD)) (src := partC (c + t)) (dst := rsC (-t)) (κ₁ := K (xk 0 c t)) (κ₂ := K (xk 1 (c + t) (-t)))
    (r₁ := 0) (r₂ := 0) (d₁ := 0) (d₂ := 0) (fd := f) (mem_duties_d m ρ c 0 ht) (mem_duties_d m ρ (c + t) 1 (neg_ne_zero' ht))
    () () N (credit_rsC (-t)) (amount_d m ρ c 0 t 0) (amount_d m ρ (c + t) 1 (-t) 0) (Os c 1 (t.val + 1) 8) (Os_rs c t 1) (W := W) hp₁ hp₂) $$ [HO Ht0 Ht1 Hp Hf]
  · isplitr; · iapply (records_inv m ρ K (xk 0 c t)); iexact HR
    isplitr; · iapply (records_inv m ρ K (xk 1 (c + t) (-t))); iexact HR
    isplitl [Hp]; · rw [set_partC]; iexact Hp
    isplitl [Hf]; · rw [set_rsC]; iexact Hf
    isplitl [HO]; · iexact HO
    isplitl [Ht0]; · iexact Ht0
    isplitr; · iapply (records_reached m ρ K (xk 0 c t)); iexact HR
    isplitl [Ht1]; · iexact Ht1
    iapply (records_reached m ρ K (xk 1 (c + t) (-t))); iexact HR
  iintro ⟨Hc', HO⟩
  iapply Hk
  isplitl [HO]; · iexists W; iexact HO
  isplitl [Hrest]; · iexact Hrest
  isplitl [Hc'] <;> iassumption

/-! ## The copies of the sums -/

/-- The copies of the own chunk of sums from offset `n` on still to come, the earlier ones under way. -/
def agSt (c : Dev nD) (n : ℕ) : sProp 𝕄 :=
  iprop(ow c (Os c n 8 8)
    ∗ (bigSep (from' n) fun t => iprop(dutyTok ER (dcell 2 c t) 0 0 ∗ dutyTok ER (dcell 3 (c + t) (-t)) 0 0 ∗ agPts c c (tok t) (agBuf m ρ)
        ∗ ∃ f, agPts (c + t) c fullShare f))
    ∗ bigSep (below n) fun t => cred (tallyAt (dcell 2 c t) () N))

theorem wp_asend (c t n : Dev nD) (hn : n = c + t) (ht : t ≠ 0) (o : Fin 2 → ℕ) (ho : ∀ a, o a + S64x256.size a ≤ S512x256.size a)
    (ho' : o = ![64 * c.val, 0])
    {hsc : (agAt o ho : Memref sig (Dev.tc n : Thread nD τ).2.kind .vmem S64x256 .bf16).view.ref.isScScratch = false}
    {hsrc : (agAt o ho).view.WordExact} {hdst : (agAt o ho).view.WordExact}
    {hsem : DmaTarget.Typed .vmem (.dma (dsem 3 (-t))) (.remote (Dev.tc n : Thread nD τ) (agAt o ho) (.dma (dsem 2 t)) hsc)}
    {α : Type} {Q : α → sProp 𝕄} {k : PUnit → Prog (TpuEff nD τ sig (Elt F) Λ₀ .tc) α} :
    iprop(records m ρ K ∗ agSt m ρ c t.val) ⊢ iprop((agSt m ρ c (t.val + 1) -∗ wpc c (k ⟨⟩) Q)
      -∗ wpc c (.op (.enqueueDma (agAt o ho) (.remote (Dev.tc n : Thread nD τ) (agAt o ho) (.dma (dsem 2 t)) hsc) (.dma (dsem 3 (-t))) hsrc hdst hsem) k) Q) := by
  subst hn ho'
  unfold agSt ow
  rw [bigSep_from', bigSep_below t ht]
  iintro ⟨#HR, ⟨%W, HO⟩, ⟨⟨Ht0, Ht1, Hp, ⟨%f, Hf⟩⟩, Hrest⟩, Hc⟩ Hk
  have hp₁ : ((agC c).view.loc (c : Thread nD τ) ↦[(agC c).view.set]{tok t} (agBuf m ρ) : sProp 𝕄)
      ⊢ (Rd m ρ).payload (dcell 2 c t) 0 0 := by rw [payload_d, set_agC]; exact BI.Entails.refl _
  have hp₂ : ((agC c).view.loc (c + t : Dev nD) ↦[(agC c).view.set]{fullShare}
        ((agC c).view.write (Elt F) f ((agC c).view.read (Elt F) (agBuf m ρ)) Finset.univ) : sProp 𝕄)
      ⊢ (Rd m ρ).payload (dcell 3 (c + t) (-t)) 0 0 := by
    rw [payload_d, set_agC]; unfold xPay; rw [add_neg]
    exact Entails.of_eq (pointsTo_congr fun i hi => land_ag c f (agBuf m ρ) i hi)
  iapply (Rounds.wp_send_pointsTo 𝒱₀ ER (Rd m ρ) (c : Thread nD τ) none (c' := (c + t : Dev nD)) (src := agC c) (dst := agC c) (κ₁ := K (xk 2 c t)) (κ₂ := K (xk 3 (c + t) (-t)))
    (r₁ := 0) (r₂ := 0) (d₁ := 0) (d₂ := 0) (fd := f) (mem_duties_d m ρ c 2 ht) (mem_duties_d m ρ (c + t) 3 (neg_ne_zero' ht))
    () () N (credit_agC c) (amount_d m ρ c 2 t 0) (amount_d m ρ (c + t) 3 (-t) 0) (Os c (t.val + 1) 8 8) (Os_ag c t) (W := W) hp₁ hp₂) $$ [HO Ht0 Ht1 Hp Hf]
  · isplitr; · iapply (records_inv m ρ K (xk 2 c t)); iexact HR
    isplitr; · iapply (records_inv m ρ K (xk 3 (c + t) (-t))); iexact HR
    isplitl [Hp]; · rw [set_agC]; iexact Hp
    isplitl [Hf]; · rw [set_agC]; iexact Hf
    isplitl [HO]; · iexact HO
    isplitl [Ht0]; · iexact Ht0
    isplitr; · iapply (records_reached m ρ K (xk 2 c t)); iexact HR
    isplitl [Ht1]; · iexact Ht1
    iapply (records_reached m ρ K (xk 3 (c + t) (-t))); iexact HR
  iintro ⟨Hc', HO⟩
  iapply Hk
  isplitl [HO]; · iexists W; iexact HO
  isplitl [Hrest]; · iexact Hrest
  isplitl [Hc'] <;> iassumption

/-! ## The waits for the copies -/

/-- The waits of kind `j` from slot `n` on still to come; what the earlier ones brought. -/
def waitSt (j : Fin 4) (c : Dev nD) (O : CellTallies nD τ sig Unit) (n : ℕ) : sProp 𝕄 :=
  iprop(ow c O
    ∗ (bigSep (from' n) fun s => iprop(cred (tallyAt (dcell j c s) () N) ∗ atPos ER (dcell j c s) 0 ∅ 0))
    ∗ bigSep (below n) fun s => iprop(xPay m ρ j c s ∗ atPos ER (dcell j c s) 1 ∅ 0))

theorem wp_dwait (j : Fin 4) (c s : Dev nD) (hs : s ≠ 0) (O : CellTallies nD τ sig Unit)
    (hO : (levAts L lv : sProp 𝕄) ⊢ MayWait (c : Thread nD τ) (.dma (dsem j s)) () O)
    {sp sp' : Space} {s₂ : Shape} {e₂ : EltTy} {src : Memref sig .tc sp' s₂ e₂} {κ' : Kind} {dst : Memref sig κ' sp S64x256 .bf16}
    {hsrc : src.view.WordExact} {hdst : dst.view.WordExact} (hN : dst.view.dmaCredit = N)
    {α : Type} {Q : α → sProp 𝕄} {k : PUnit → Prog (TpuEff nD τ sig (Elt F) Λ₀ .tc) α} :
    iprop(records m ρ K ∗ levAts L lv ∗ waitSt m ρ j c O s.val) ⊢ iprop((waitSt m ρ j c O (s.val + 1) -∗ wpc c (k ⟨⟩) Q)
      -∗ wpc c (.op (.waitDma2 (dsem j s) src dst hsrc hdst) k) Q) := by
  unfold waitSt ow
  rw [bigSep_from', bigSep_below s hs, ← hN]
  iintro ⟨#HR, #Hlev, ⟨%W, HO⟩, ⟨⟨Hc, Hat⟩, Hrest⟩, Hdone⟩ Hk
  iapply (Rounds.wp_wait_rest_token 𝒱₀ ER (Rd m ρ) (c : Thread nD τ) none (κ := K (xk j c s))
      (wpE_waitDma2_eq 𝒱₀ (c : Thread nD τ) none Set.univ) (Set.mem_univ _) () (O := O) (W := W) (R := 0) (m := 0) (T := ∅)
      (by rw [Nat.zero_add]; exact hN.trans (expect_d m ρ c j hs).symm)) $$ [Hc HO Hat]
  · isplitr; · iapply (records_inv m ρ K (xk j c s)); iexact HR
    isplitl [Hc]; · iexact Hc
    isplitl [HO]; · iexact HO
    isplitr; · iapply hO; iexact Hlev
    iexact Hat
  iintro ⟨HO, Hat, -, Hpay⟩
  ihave Hp := (Entails.of_eq (rest_d m ρ c j hs)) $$ Hpay
  iapply Hk
  isplitl [HO]; · iexists _; iexact HO
  isplitl [Hrest]; · iexact Hrest
  isplitl [Hp Hat]
  · isplitl [Hp] <;> iassumption
  iexact Hdone

/-- Nothing owed, any semaphore may be waited on. -/
theorem mayWait_done (c : Dev nD) (sm : SemLoc sig) : (levAts L lv : sProp 𝕄) ⊢ MayWait (c : Thread nD τ) sm () (Os c 8 8 8) := by
  rw [Os_done, MayWait_zero]; iintro -; iempintro

/-- The waits for the landings of the contributions, -/
theorem wp_wait_rs (c s : Dev nD) (hs : s ≠ 0)
    {sp' : Space} {s₂ : Shape} {e₂ : EltTy} {src : Memref sig .tc sp' s₂ e₂} {hsrc : src.view.WordExact} {hdst : (rsC s).view.WordExact}
    {α : Type} {Q : α → sProp 𝕄} {k : PUnit → Prog (TpuEff nD τ sig (Elt F) Λ₀ .tc) α} :
    iprop(records m ρ K ∗ levAts L lv ∗ waitSt m ρ 1 c (Os c 1 8 8) s.val) ⊢ iprop((waitSt m ρ 1 c (Os c 1 8 8) (s.val + 1) -∗ wpc c (k ⟨⟩) Q)
      -∗ wpc c (.op (.waitDma2 (dsem 1 s) src (rsC s) hsrc hdst) k) Q) :=
  wp_dwait m ρ K 1 c s hs _ (mayWait c _ 2 1 8 8 (by rw [lvOf_d]; decide) (by decide) (fun h => absurd h (by decide)) (fun h => absurd h (by decide)))
    (src := src) (dst := rsC s) (credit_rsC s)

/-- for the copies of the contributions to have left, -/
theorem wp_wait_part (c s : Dev nD) (hs : s ≠ 0) {o : Fin 2 → ℕ} {ho : ∀ a, o a + S64x256.size a ≤ S512x256.size a}
    {sp' : Space} {s₂ : Shape} {e₂ : EltTy} {src : Memref sig .tc sp' s₂ e₂} {hsrc : src.view.WordExact} {hdst : (partAt o ho).view.WordExact}
    {α : Type} {Q : α → sProp 𝕄} {k : PUnit → Prog (TpuEff nD τ sig (Elt F) Λ₀ .tc) α} :
    iprop(records m ρ K ∗ levAts L lv ∗ waitSt m ρ 0 c (Os c 8 8 8) s.val) ⊢ iprop((waitSt m ρ 0 c (Os c 8 8 8) (s.val + 1) -∗ wpc c (k ⟨⟩) Q)
      -∗ wpc c (.op (.waitDma2 (dsem 0 s) src (partAt o ho) hsrc hdst) k) Q) :=
  wp_dwait m ρ K 0 c s hs _ (mayWait_done c _) (src := src) (dst := partAt o ho) (show (partAt o ho).view.dmaCredit = N from rfl)

/-- and for the copies of the sums to have landed (kind 3) and left (kind 2). -/
theorem wp_wait_ag (j : Fin 4) (c s : Dev nD) (hs : s ≠ 0) {o : Fin 2 → ℕ} {ho : ∀ a, o a + S64x256.size a ≤ S512x256.size a}
    {sp' : Space} {s₂ : Shape} {e₂ : EltTy} {src : Memref sig .tc sp' s₂ e₂} {hsrc : src.view.WordExact} {hdst : (agAt o ho).view.WordExact}
    {α : Type} {Q : α → sProp 𝕄} {k : PUnit → Prog (TpuEff nD τ sig (Elt F) Λ₀ .tc) α} :
    iprop(records m ρ K ∗ levAts L lv ∗ waitSt m ρ j c (Os c 8 8 8) s.val) ⊢ iprop((waitSt m ρ j c (Os c 8 8 8) (s.val + 1) -∗ wpc c (k ⟨⟩) Q)
      -∗ wpc c (.op (.waitDma2 (dsem j s) src (agAt o ho) hsrc hdst) k) Q) :=
  wp_dwait m ρ K j c s hs _ (mayWait_done c _) (src := src) (dst := agAt o ho) (show (agAt o ho).view.dmaCredit = N from rfl)

/-! ## Where a sequence of steps starts and ends -/

theorem sig_start (c : Dev nD) (fa : Vec F S512x256 .bf16) :
    iprop(ow c (Os c 1 1 1) ∗ (bigSep (from' 1) fun t => dutyTok ER (barCell (c + t)) 0 (-t)) ∗ (bigSep (from' 1) fun t => iprop(∃ f, rsPts c t f))
        ∗ bigSep (from' 1) fun t => agPts c (c + t) fullShare fa) ⊢ (sigSt c 1 : sProp 𝕄) := by
  unfold sigSt
  rw [bigSep_sep', bigSep_sep']
  exact sep_mono_right (sep_mono_right (sep_mono_right (bigSep_mono fun t _ =>
    (show (agPts c (c + t) fullShare fa : sProp 𝕄) ⊢ iprop(∃ f, agPts c (c + t) fullShare f) from by iintro H; iexists fa; iexact H))))

theorem rs_start (c : Dev nD) :
    iprop(ow c (Os c 1 1 8) ∗ (bigSep (from' 1) fun t => dutyTok ER (dcell 0 c t) 0 0) ∗ (bigSep (from' 1) fun t => dutyTok ER (dcell 1 (c + t) (-t)) 0 0)
        ∗ (bigSep (from' 1) fun t => partPts c (c + t) (part m ρ c)) ∗ bigSep (from' 1) fun t => iprop(∃ f, rsPts (c + t) (-t) f))
      ⊢ (rsSt m ρ c 1 : sProp 𝕄) := by
  unfold rsSt
  rw [bigSep_sep', bigSep_sep', bigSep_sep', below_one, bigSep_empty]
  iintro ⟨HO, H⟩
  isplitl [HO]; · iexact HO
  isplitl [H]; · iexact H
  iempintro

theorem rs_end (c : Dev nD) : rsSt m ρ c ((7 : Dev nD).val + 1) ⊢ (iprop(ow c (Os c 1 8 8) ∗ bigSep (from' 1) fun t => cred (tallyAt (dcell 0 c t) () N)) : sProp 𝕄) := by
  unfold rsSt; rw [show below ((7 : Dev nD).val + 1) = from' 1 from below_eight]; exact sep_mono_right sep_elim_right

theorem ag_start (c : Dev nD) :
    iprop(ow c (Os c 1 8 8) ∗ (bigSep (from' 1) fun t => dutyTok ER (dcell 2 c t) 0 0) ∗ (bigSep (from' 1) fun t => dutyTok ER (dcell 3 (c + t) (-t)) 0 0)
        ∗ (bigSep (from' 1) fun t => agPts c c (tok t) (agBuf m ρ)) ∗ bigSep (from' 1) fun t => iprop(∃ f, agPts (c + t) c fullShare f))
      ⊢ (agSt m ρ c 1 : sProp 𝕄) := by
  unfold agSt
  rw [bigSep_sep', bigSep_sep', bigSep_sep', below_one, bigSep_empty]
  iintro ⟨HO, H⟩
  isplitl [HO]; · iexact HO
  isplitl [H]; · iexact H
  iempintro

theorem ag_end (c : Dev nD) : agSt m ρ c ((7 : Dev nD).val + 1) ⊢ (iprop(ow c (Os c 8 8 8) ∗ bigSep (from' 1) fun t => cred (tallyAt (dcell 2 c t) () N)) : sProp 𝕄) := by
  unfold agSt; rw [show below ((7 : Dev nD).val + 1) = from' 1 from below_eight]; exact sep_mono_right sep_elim_right

theorem wait_start (j : Fin 4) (c : Dev nD) (O : CellTallies nD τ sig Unit) :
    iprop(ow c O ∗ (bigSep (from' 1) fun s => cred (tallyAt (dcell j c s) () N)) ∗ bigSep (from' 1) fun s => atPos ER (dcell j c s) 0 ∅ 0)
      ⊢ (waitSt m ρ j c O 1 : sProp 𝕄) := by
  unfold waitSt
  rw [bigSep_sep', below_one, bigSep_empty]
  iintro ⟨HO, H⟩
  isplitl [HO]; · iexact HO
  isplitl [H]; · iexact H
  iempintro

theorem wait_end (j : Fin 4) (c : Dev nD) (O : CellTallies nD τ sig Unit) :
    waitSt m ρ j c O ((7 : Dev nD).val + 1) ⊢ (iprop(ow c O ∗ (bigSep (from' 1) fun s => xPay m ρ j c s) ∗ bigSep (from' 1) fun s => atPos ER (dcell j c s) 1 ∅ 0) : sProp 𝕄) := by
  unfold waitSt
  rw [show below ((7 : Dev nD).val + 1) = from' 1 from below_eight, bigSep_sep' (from' 1)]
  exact sep_mono_right sep_elim_right

end Cert.Lookup

end
-- ==== Proof.Body.lean ====
/-
The body of the launch on a device `c`, from what the launch deals it to what it leaves: run once, at any device.
-/
module

public import proofs.«01_k».proof.Proof.Steps

@[expose] public section

noncomputable section

namespace Cert.Lookup

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Buffers whole and in pieces -/

/-- The three scratch buffers, whole. -/
abbrev partW (c : Dev nD) (f : Vec F S512x256 .bf16) : sProp 𝕄 := (c : Thread nD τ).loc cc0_scratch0 ↦{fullShare} f
abbrev rsW (c : Dev nD) (f : Vec F S8x64x256 .bf16) : sProp 𝕄 := (c : Thread nD τ).loc cc0_scratch1 ↦{fullShare} f
abbrev agW (c : Dev nD) (sh : PosShare TreeShare) (f : Vec F S512x256 .bf16) : sProp 𝕄 := (c : Thread nD τ).loc cc0_scratch2 ↦{sh} f

theorem add_zero' (c : Dev nD) : c + 0 = c := by revert c; decide

/-- The offset from `c`, as a renaming of the devices. -/
def shift (c : Dev nD) : Dev nD ≃ Dev nD :=
  ⟨fun t => c + t, fun t => t + -c, by revert c; decide, by revert c; decide⟩

omit [FloatOps F] in
theorem bigSep_around (c : Dev nD) (Φ : Dev nD → sProp 𝕄) : bigSep Finset.univ Φ = iprop(Φ c ∗ bigSep (from' 1) fun t => Φ (c + t)) := by
  rw [bigSep_univ_equiv (shift c) Φ, bigSep_offsets]
  show iprop(Φ (c + 0) ∗ _) = _
  rw [add_zero']; rfl

omit [FloatOps F] in
theorem partW_eq (c : Dev nD) (f : Vec F S512x256 .bf16) : partW c f = iprop(partPts c c f ∗ bigSep (from' 1) fun t => partPts c (c + t) f) := by
  unfold partW; rw [Ring.pointsTo_blocks rowSet row_disjoint row_cover, bigSep_around c]
omit [FloatOps F] in
theorem rsW_eq (c : Dev nD) (f : Vec F S8x64x256 .bf16) : rsW c f = iprop(rsPts c 0 f ∗ bigSep (from' 1) fun s => rsPts c s f) := by
  unfold rsW; rw [Ring.pointsTo_blocks slotSet slot_disjoint slot_cover, bigSep_offsets]
omit [FloatOps F] in
theorem agW_eq (c : Dev nD) (sh : PosShare TreeShare) (f : Vec F S512x256 .bf16) :
    agW c sh f = iprop(agPts c c sh f ∗ bigSep (from' 1) fun t => agPts c (c + t) sh f) := by
  unfold agW; rw [Ring.pointsTo_blocks rowSet row_disjoint row_cover, bigSep_around c]

/-- What is left of a chunk's full share once a share for each offset is dealt out. -/
abbrev rest : PosShare TreeShare := Transfers.shareDrop fullShare 8

omit [FloatOps F] in
/-- A chunk of sums dealt out by shares. -/
theorem agPts_deal (c q : Dev nD) (f : Vec F S512x256 .bf16) :
    (agPts c q fullShare f : sProp 𝕄) ⊣⊢ iprop(agPts c q rest f ∗ bigSep Finset.univ fun t : Dev nD => agPts c q (tok t) f) :=
  Transfers.pointsTo_toks fullShare 8

omit [FloatOps F] in
theorem agPts_deal_eq (c q : Dev nD) (f : Vec F S512x256 .bf16) :
    (agPts c q fullShare f : sProp 𝕄) = iprop(agPts c q rest f ∗ bigSep Finset.univ fun t : Dev nD => agPts c q (tok t) f) :=
  BI.equiv_iff.mp ⟨(agPts_deal c q f).1, (agPts_deal c q f).2⟩

omit [FloatOps F] in
/-- The own chunk held at what is left and the others held outright: the whole buffer to read, and the shares aside. -/
theorem ag_read (c : Dev nD) (f : Vec F S512x256 .bf16) :
    iprop(agPts c c rest f ∗ bigSep (from' 1) fun s => agPts c (c + s) fullShare f)
      = (iprop(agW c rest f ∗ bigSep (from' 1) fun s => bigSep Finset.univ fun t : Dev nD => agPts c (c + s) (tok t) f) : sProp 𝕄) := by
  rw [bigSep_congr fun s _ => agPts_deal_eq c (c + s) f, bigSep_sep', agW_eq]
  exact BI.equiv_iff.mp ⟨BI.sep_assoc', BI.sep_assoc⟩

/-! ## What the launch deals a device -/

/-- The rights to the raises device `c` makes. -/
def payToks (c : Dev nD) : sProp 𝕄 :=
  iprop((bigSep (from' 1) fun t => dutyTok ER (barCell (c + t)) 0 (-t))
    ∗ ((bigSep (from' 1) fun t => dutyTok ER (dcell 0 c t) 0 0) ∗ bigSep (from' 1) fun t => dutyTok ER (dcell 1 (c + t) (-t)) 0 0)
    ∗ (bigSep (from' 1) fun t => dutyTok ER (dcell 2 c t) 0 0) ∗ bigSep (from' 1) fun t => dutyTok ER (dcell 3 (c + t) (-t)) 0 0)

/-- Its places on its own cells, all at the start, and those rights. -/
def linear (c : Dev nD) : sProp 𝕄 :=
  iprop((bigSep Finset.univ fun k : CI => atPos ER (kcell (c, k)) 0 ∅ 0) ∗ payToks c)

/-- The credit it waits with: seven raises of its barrier, and one landing of each kind in each slot. -/
def creds (c : Dev nD) : sProp 𝕄 :=
  iprop(cred (tallyAt (barCell c) () 7) ∗ (bigSep (from' 1) fun s => cred (tallyAt (dcell 1 c s) () N))
    ∗ bigSep (from' 1) fun s => cred (tallyAt (dcell 3 c s) () N))

def start (c : Dev nD) : sProp 𝕄 := iprop((∃ K, records m ρ K ∗ linear c) ∗ creds c ∗ levAts L lv)

/-- The three scratch buffers at any contents. -/
def scratch (c : Dev nD) : sProp 𝕄 := iprop((∃ f, partW c f) ∗ (∃ f, rsW c f) ∗ ∃ f, agW c fullShare f)

def Φ₀ (c : Dev nD) : sProp 𝕄 := iprop(start m ρ c ∗ scratch c)
/-- At the end: the scratch buffers and every counter of the device at zero. -/
def Φ₁ (c : Dev nD) : sProp 𝕄 := iprop(scratch c ∗ bigSep Finset.univ fun k : CI => semVal (kcell (c, k)) 0)

/-- The result, the same on every device. -/
def outBuf : (cc0_stg2_0 : Ref sig .tc).ty.Contents (Elt F) := k0_pay4 (agBuf m ρ)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => tab m ρ c
    | ⟨1, _⟩ => ids m ρ c
    | ⟨2, _⟩ => outBuf m ρ
  Φ t := match t with
    | ⟨0, _⟩ => Φ₀ m ρ c
    | ⟨_ + 1, _⟩ => Φ₁ c
  q _ := fullShare
  owed t := match t with
    | ⟨0, _⟩ => Os c 1 1 1
    | ⟨_ + 1, _⟩ => 0

/-! ## The cells closed -/

variable (K : Dev nD × CI → ℕ)

theorem close_kind (j : Fin 4) (c : Dev nD) :
    iprop(records m ρ K ∗ atPos ER (dcell j c 0) 0 ∅ 0 ∗ bigSep (from' 1) fun s => atPos ER (dcell j c s) 1 ∅ 0)
      ⊢ (iprop(|={Set.univ}=> bigSep Finset.univ fun s => semVal (dcell j c s) 0) : sProp 𝕄) := by
  iintro ⟨#HR, H0, Hs⟩
  imod (Rounds.cell_close ER (Rd m ρ) (Set.mem_univ (K (xk j c 0))) (fun h => h) (R := 0) (fun r _ => by
    rcases Nat.eq_zero_or_pos r with rfl | hr
    · exact (duties_d m ρ c j 0).trans (if_pos rfl)
    · exact duties_later m ρ (dcell j c 0) r hr)) $$ [H0] with Hz
  · isplitr; · iapply (records_inv m ρ K (xk j c 0)); iexact HR
    iexact H0
  imod (show iprop(records m ρ K ∗ bigSep (from' 1) fun s => atPos ER (dcell j c s) 1 ∅ 0)
      ⊢ (iprop(|={Set.univ}=> bigSep (from' 1) fun s => semVal (dcell j c s) 0) : sProp 𝕄) from
        ((sep_mono_left (BI.bigSep_of_persistent (from' 1) (records m ρ K))).trans (by
          rw [← bigSep_sep']
          exact (bigSep_mono fun s _ => (sep_mono_left (records_inv m ρ K (xk j c s))).trans
            (Rounds.cell_close ER (Rd m ρ) (Set.mem_univ (K (xk j c s))) (fun h => h) (R := 1) (duties_later m ρ (dcell j c s)))).trans
            (bigSep_fupd _ _)))) $$ [Hs] with Hzs
  · isplitr; · iexact HR
    iexact Hs
  imodintro
  rw [bigSep_offsets]
  isplitl [Hz] <;> iassumption

theorem close_bar (c : Dev nD) :
    iprop(records m ρ K ∗ atPos ER (barCell c) 1 ∅ 0) ⊢ (iprop(|={Set.univ}=> semVal (barCell c) 0) : sProp 𝕄) :=
  (sep_mono_left (records_inv m ρ K (bk c))).trans
    (Rounds.cell_close ER (Rd m ρ) (Set.mem_univ (K (bk c))) (fun h => h) (R := 1) (duties_later m ρ (barCell c)))

omit [FloatOps F] in
/-- A device's cells: its barrier, then kind by kind. -/
theorem bigSep_cells (Φ : CI → sProp 𝕄) :
    bigSep Finset.univ Φ = iprop(Φ (.inl ()) ∗ (bigSep Finset.univ fun s => Φ (.inr (0, s))) ∗ (bigSep Finset.univ fun s => Φ (.inr (1, s)))
      ∗ (bigSep Finset.univ fun s => Φ (.inr (2, s))) ∗ bigSep Finset.univ fun s => Φ (.inr (3, s))) := by
  rw [bigSep_univ_sum, bigSep_univ_prod, bigSep_univ_eq_bigSepL [()] (by decide) (by decide) (fun a : Unit => Φ (.inl a)),
    bigSep_univ_eq_bigSepL [(0 : Fin 4), 1, 2, 3] (by decide) (by decide) (fun j => bigSep Finset.univ fun s => Φ (.inr (j, s)))]
  rfl

/-! ## Loads and stores -/

section Whole
variable (c : Dev nD) {cs : CoreSpace} {i : Fin (sig.nNear Kind.tc cs)} {hκ : sig.names Kind.tc cs i = true}
  {off : Fin (sig.tyNear Kind.tc cs i).shape.rank → ℕ} (h : off = fun _ => 0)
  {inb : ∀ a, off a + (sig.tyNear Kind.tc cs i).shape.size a ≤ (sig.tyNear Kind.tc cs i).shape.size a}
  {α : Type} (f : (sig.tyNear Kind.tc cs i).Contents (Elt F))
include h

/-- A buffer loaded whole. -/
theorem wp_load_all
    {hl : (Memref.whole ⟨cs, i, hκ⟩ : Memref sig .tc _ _ _).view.LoadsAt (Rect.unit off (sig.tyNear Kind.tc cs i).shape.size inb).toLoadRect}
    {k : (sig.tyNear Kind.tc cs i).Contents (Elt F) → Prog (TpuEff nD τ sig (Elt F) Λ₀ .tc) α} {Q : α → sProp 𝕄} {sh : PosShare TreeShare} :
    ((c : Thread nD τ).loc ⟨cs, i, hκ⟩ ↦{sh} f) ⊢ iprop((((c : Thread nD τ).loc ⟨cs, i, hκ⟩ ↦{sh} f) -∗ wpc c (k f) Q)
      -∗ wpc c (.op (.load (Memref.whole ⟨cs, i, hκ⟩) (Rect.unit off (sig.tyNear Kind.tc cs i).shape.size inb).toLoadRect hl) k) Q) := by
  have := wp_load (defs := defs₀ (F := F)) 𝒱₀ (c : Thread nD τ) none (Γ := .empty) Set.univ (Q := Q) (m := (Memref.whole ⟨cs, i, hκ⟩ : Memref sig .tc _ _ _))
    (r := (Rect.unit off (sig.tyNear Kind.tc cs i).shape.size inb).toLoadRect) (hl := hl) (k := k) (q := sh) (f := f) (S := Finset.univ) (Finset.subset_univ _)
  rw [show (Memref.whole ⟨cs, i, hκ⟩ : Memref sig .tc _ _ _).view.readAt (Elt F) (Rect.unit off (sig.tyNear Kind.tc cs i).shape.size inb).toLoadRect f = f from
    Memref.readAt_unit_zero (Elt F) ⟨cs, i, hκ⟩ h inb f] at this
  exact this

/-- A buffer stored whole. -/
theorem wp_store_all {w : (sig.tyNear Kind.tc cs i).Contents (Elt F)}
    {hx : ((Memref.whole ⟨cs, i, hκ⟩ : Memref sig .tc _ _ _).access (Rect.unit off (sig.tyNear Kind.tc cs i).shape.size inb)).Stores Finset.univ}
    {hm : (Finset.univ : Finset (Rect.unit off (sig.tyNear Kind.tc cs i).shape.size inb).shape.Idx) = Finset.univ ∨ ∀ a, (Rect.unit off (sig.tyNear Kind.tc cs i).shape.size inb).stride a = 1}
    {k : PUnit → Prog (TpuEff nD τ sig (Elt F) Λ₀ .tc) α} {Q : α → sProp 𝕄} :
    ((c : Thread nD τ).loc ⟨cs, i, hκ⟩ ↦{fullShare} f) ⊢ iprop((((c : Thread nD τ).loc ⟨cs, i, hκ⟩ ↦{fullShare} w) -∗ wpc c (k ⟨⟩) Q)
      -∗ wpc c (.op (.store (Memref.whole ⟨cs, i, hκ⟩) (Rect.unit off (sig.tyNear Kind.tc cs i).shape.size inb) w Finset.univ hx hm) k) Q) := by
  have := wp_store (defs := defs₀ (F := F)) 𝒱₀ (c : Thread nD τ) none (Γ := .empty) Set.univ (Q := Q) (m := (Memref.whole ⟨cs, i, hκ⟩ : Memref sig .tc _ _ _))
    (r := Rect.unit off (sig.tyNear Kind.tc cs i).shape.size inb) (w := w) (Mk := Finset.univ) (hx := hx) (hm := hm) (k := k) (f := f) (S := Finset.univ) (Finset.subset_univ _)
  rw [show ((Memref.whole ⟨cs, i, hκ⟩ : Memref sig .tc _ _ _).access (Rect.unit off (sig.tyNear Kind.tc cs i).shape.size inb)).write (Elt F) f w Finset.univ = w from
    Memref.write_access_unit_zero_univ (Elt F) ⟨cs, i, hκ⟩ h inb f w] at this
  exact this

end Whole

/-- A device's own chunk of its contribution. -/
abbrev ownPart (c : Dev nD) : Vec F S64x256 .bf16 := partM.view.readAt (Elt F) (rowRect c).toLoadRect (part m ρ c)

/-- The own chunk of the contribution, loaded. -/
theorem wp_part_load (c : Dev nD) (o : Fin 2 → ℕ) (ho : ∀ a, o a + S64x256.size a ≤ S512x256.size a) (h : o = ![64 * c.val, 0])
    {hl : partM.view.LoadsAt (Rect.unit (s := S512x256) o S64x256.size ho).toLoadRect} {α : Type} {Q : α → sProp 𝕄}
    {k : Vec F S64x256 .bf16 → Prog (TpuEff nD τ sig (Elt F) Λ₀ .tc) α} :
    (partW c (part m ρ c)) ⊢ iprop((partW c (part m ρ c) -∗ wpc c (k (ownPart m ρ c)) Q)
      -∗ wpc c (.op (.load partM (Rect.unit (s := S512x256) o S64x256.size ho).toLoadRect hl) k) Q) := by
  subst h
  exact wp_load (defs := defs₀ (F := F)) 𝒱₀ (c : Thread nD τ) none Set.univ (m := partM) (r := (rowRect c).toLoadRect) (Finset.subset_univ _)

/-- Slot 0 loaded before it is written. -/
theorem wp_slot_load (c : Dev nD) {inb : ∀ a, (![0, 0, 0] : Fin 3 → ℕ) a + S1x64x256.size a ≤ S8x64x256.size a}
    {hl : rsM.view.LoadsAt (Rect.unit (s := S8x64x256) ![0, 0, 0] S1x64x256.size inb).toLoadRect} {α : Type} {Q : α → sProp 𝕄}
    {k : Vec F S1x64x256 .bf16 → Prog (TpuEff nD τ sig (Elt F) Λ₀ .tc) α} (f : Vec F S8x64x256 .bf16) :
    (rsW c f) ⊢ iprop((∀ v, rsW c f -∗ wpc c (k v) Q)
      -∗ wpc c (.op (.load rsM (Rect.unit (s := S8x64x256) ![0, 0, 0] S1x64x256.size inb).toLoadRect hl) k) Q) := by
  iintro H Hk
  iapply (wp_load 𝒱₀ (c : Thread nD τ) none Set.univ (m := rsM) (r := (Rect.unit (s := S8x64x256) ![0, 0, 0] S1x64x256.size inb).toLoadRect) (Finset.subset_univ _)) $$ H
  iintro H
  iapply Hk; iexact H

/-- The own chunk of the contribution, stored in slot 0: the slots one by one afterwards. -/
theorem wp_slot_store (c : Dev nD) {inb : ∀ a, (![0, 0, 0] : Fin 3 → ℕ) a + S1x64x256.size a ≤ S8x64x256.size a}
    {hx : (rsM.access (Rect.unit (s := S8x64x256) ![0, 0, 0] S1x64x256.size inb)).Stores Finset.univ}
    {hm : (Finset.univ : Finset (Rect.unit (s := S8x64x256) ![0, 0, 0] S1x64x256.size inb).shape.Idx) = Finset.univ ∨ ∀ a, (Rect.unit (s := S8x64x256) ![0, 0, 0] S1x64x256.size inb).stride a = 1}
    {α : Type} {Q : α → sProp 𝕄} {k : PUnit → Prog (TpuEff nD τ sig (Elt F) Λ₀ .tc) α} (f : Vec F S8x64x256 .bf16) :
    (rsW c f) ⊢ iprop((rsPts c 0 (rsBuf m ρ c) ∗ (bigSep (from' 1) fun s => iprop(∃ f, rsPts c s f)) -∗ wpc c (k ⟨⟩) Q)
      -∗ wpc c (.op (.store rsM (Rect.unit (s := S8x64x256) ![0, 0, 0] S1x64x256.size inb) (k0_pay2 (ownPart m ρ c)) Finset.univ hx hm) k) Q) := by
  have hs (g : Vec F S8x64x256 .bf16) : (bigSep (from' 1) fun s => rsPts c s g) ⊢ (bigSep (from' 1) fun s => iprop(∃ f, rsPts c s f) : sProp 𝕄) :=
    bigSep_mono fun s _ => (show (rsPts c s g : sProp 𝕄) ⊢ iprop(∃ f, rsPts c s f) from by iintro H; iexists g; iexact H)
  iintro H Hk
  iapply (wp_store 𝒱₀ (c : Thread nD τ) none Set.univ (m := rsM) (r := slotRect 0) (Mk := Finset.univ) (S := Finset.univ) (Finset.subset_univ _)) $$ H
  iintro H
  ihave H := (Entails.of_eq (rsW_eq c _)) $$ H
  icases H with ⟨H0, Hs⟩
  iapply Hk
  isplitl [H0]
  · iapply (Entails.of_eq (pointsTo_congr fun i hi => store_rs m ρ c f i hi)); iexact H0
  iapply (hs _); iexact Hs

/-- The own chunk of sums, loaded before it is written. -/
theorem wp_own_load (c : Dev nD) (o : Fin 2 → ℕ) (ho : ∀ a, o a + S64x256.size a ≤ S512x256.size a) (h : o = ![64 * c.val, 0])
    {hl : agM.view.LoadsAt (Rect.unit (s := S512x256) o S64x256.size ho).toLoadRect} {α : Type} {Q : α → sProp 𝕄}
    {k : (S64x256.Idx → Elt F .bf16) → Prog (TpuEff nD τ sig (Elt F) Λ₀ .tc) α} (f : Vec F S512x256 .bf16) :
    (agPts c c fullShare f) ⊢ iprop((∀ v, agPts c c fullShare f -∗ wpc c (k v) Q)
      -∗ wpc c (.op (.load agM (Rect.unit (s := S512x256) o S64x256.size ho).toLoadRect hl) k) Q) := by
  subst h
  iintro H Hk
  iapply (wp_load_rect 𝒱₀ (c : Thread nD τ) none Set.univ (m := agM) (r := rowRect c) (S := rowSet c) (by
    rw [show (agM.access (rowRect c)).set = rowSet c from set_agC c])) $$ H
  iintro H
  iapply Hk; iexact H

/-- The own chunk of sums, written. -/
theorem wp_own_store (c : Dev nD) (o : Fin 2 → ℕ) (ho : ∀ a, o a + S64x256.size a ≤ S512x256.size a) (h : o = ![64 * c.val, 0])
    {hx : (agM.access (Rect.unit (s := S512x256) o S64x256.size ho)).Stores Finset.univ}
    {hm : (Finset.univ : Finset (Rect.unit (s := S512x256) o S64x256.size ho).shape.Idx) = Finset.univ ∨ ∀ a, (Rect.unit (s := S512x256) o S64x256.size ho).stride a = 1}
    {α : Type} {Q : α → sProp 𝕄} {k : PUnit → Prog (TpuEff nD τ sig (Elt F) Λ₀ .tc) α} (f : Vec F S512x256 .bf16) :
    (agPts c c fullShare f) ⊢ iprop((agPts c c fullShare (agBuf m ρ) -∗ wpc c (k ⟨⟩) Q)
      -∗ wpc c (.op (.store agM (Rect.unit (s := S512x256) o S64x256.size ho) (k0_pay3 (rsBuf m ρ c)) Finset.univ hx hm) k) Q) := by
  subst h
  iintro H Hk
  iapply (wp_store 𝒱₀ (c : Thread nD τ) none Set.univ (m := agM) (r := rowRect c) (Mk := Finset.univ) (S := rowSet c) (by
    show (agM.access (rowRect c)).set ⊆ rowSet c
    rw [show (agM.access (rowRect c)).set = rowSet c from set_agC c])) $$ H
  iintro H
  iapply Hk
  iapply (Entails.of_eq (pointsTo_congr fun i hi => store_ag m ρ c f i hi)); iexact H

end Cert.Lookup

end
-- ==== Proof.Run.lean ====
/-
The body run on a device `c`, operation by operation.
-/
module

public import proofs.«01_k».proof.Proof.Body

@[expose] public section

noncomputable section

namespace Cert.Lookup

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CI → ℕ)

/-- The staged operands: a staging buffer whole at known contents. -/
abbrev stgPts (c : Dev nD) (b : Ref sig .tc) (X : b.ty.Contents (Elt F)) : sProp 𝕄 := (c : Thread nD τ).loc b ↦{fullShare} X

/-- The body as the launch calls it. -/
abbrev theBody : Prog (TpuEff nD τ sig (Elt F) Λ₀ .tc) PUnit :=
  cc0_body (Memref.whole cc0_stg0_0) (Memref.isWhole_whole _) (Memref.whole cc0_stg1_0) (Memref.isWhole_whole _)
    (Memref.whole cc0_stg2_0) (Memref.isWhole_whole _) (Memref.whole cc0_scratch0) (Memref.isWhole_whole _)
    (Memref.whole cc0_scratch1) (Memref.isWhole_whole _) (Memref.whole cc0_scratch2) (Memref.isWhole_whole _)
    cc0_scratch3 cc0_scratch4 cc0_scratch5 cc0_scratch6

set_option maxHeartbeats 4000000 in
set_option maxRecDepth 65536 in
theorem run_body (c : Dev nD) (Q : PUnit → sProp 𝕄) :
    iprop(records m ρ K ∗ levAts L lv ∗ linear c ∗ creds c ∗ scratch c ∗ ow c (Os c 1 1 1)
        ∗ stgPts c cc0_stg0_0 (tab m ρ c) ∗ stgPts c cc0_stg1_0 (ids m ρ c) ∗ (∃ f, stgPts c cc0_stg2_0 f))
      ⊢ iprop(((Φ₁ c ∗ ow c 0 ∗ stgPts c cc0_stg0_0 (tab m ρ c) ∗ stgPts c cc0_stg1_0 (ids m ρ c) ∗ stgPts c cc0_stg2_0 (outBuf m ρ)) -∗ Q ⟨⟩)
        -∗ wpc c theBody Q) := by
  unfold theBody
  simp only [cc0_body_eq_skeleton]
  unfold cc0_body_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton,
    k0_part11_eq_skeleton, k0_part12_eq_skeleton, k0_part13_eq_skeleton, k0_part14_eq_skeleton, k0_part15_eq_skeleton,
    k0_part16_eq_skeleton, k0_part17_eq_skeleton, k0_part18_eq_skeleton, k0_part19_eq_skeleton, k0_part20_eq_skeleton,
    k0_part21_eq_skeleton, k0_part22_eq_skeleton]
  unfold k0_part22_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton,
    k0_part11_eq_skeleton, k0_part12_eq_skeleton, k0_part13_eq_skeleton, k0_part14_eq_skeleton, k0_part15_eq_skeleton,
    k0_part16_eq_skeleton, k0_part17_eq_skeleton, k0_part18_eq_skeleton, k0_part19_eq_skeleton, k0_part20_eq_skeleton,
    k0_part21_eq_skeleton]
  unfold k0_part1_skel k0_part2_skel k0_part3_skel k0_part4_skel k0_part5_skel k0_part6_skel k0_part7_skel k0_part8_skel k0_part9_skel
    k0_part10_skel k0_part11_skel k0_part12_skel k0_part13_skel k0_part14_skel k0_part15_skel k0_part16_skel k0_part17_skel
    k0_part18_skel k0_part19_skel k0_part20_skel k0_part21_skel
  simp only [semSignalWord, semWaitWord, Prog.lift, Prog.bind_op, Prog.bind_ret, Prog.pure_eq_ret, wp_deviceId]
  unfold linear payToks creds scratch
  iintro ⟨#HR, #Hlev, ⟨Hat, HtB, ⟨Ht0, Ht1⟩, Ht2, Ht3⟩, ⟨HcB, HcR, HcA⟩, ⟨⟨%fp, Hp⟩, ⟨%fr, Hr⟩, ⟨%fa, Ha⟩⟩, HO, Htab, Hids, ⟨%fo, Hout⟩⟩ Hk
  -- the own contribution
  iapply (wp_load_all c hz1 (ids m ρ c)) $$ Hids; iintro Hids
  iapply (wp_load_all c hz2 (tab m ρ c)) $$ Htab; iintro Htab
  iapply (wp_load_all c hz2 fp) $$ Hp; iintro Hp
  iapply (wp_store_all c hz2 fp) $$ Hp; iintro Hp
  ihave Hp := (Entails.of_eq (show (partW c (k0_pay1 c (ids m ρ c) (tab m ρ c)) : sProp 𝕄) = partW c (part m ρ c) from rfl)) $$ Hp
  iapply (wp_part_load m ρ c _ _ (k0_off1_eq c)) $$ Hp; iintro Hp
  iapply (wp_slot_load c fr) $$ Hr; iintro %v Hr
  iapply (wp_slot_store m ρ c fr) $$ Hr; iintro ⟨Hr0, Hrs⟩
  -- the barrier
  ihave Ha := (Entails.of_eq (agW_eq c fullShare fa)) $$ Ha
  icases Ha with ⟨Ha0, Has⟩
  ihave S := (sig_start c fa) $$ [HO HtB Hrs Has]
  · isplitl [HO]; · iexact HO
    isplitl [HtB]; · iexact HtB
    isplitl [Hrs] <;> iassumption
  iapply (wp_sig m ρ K c 1 _ (dev1 c) (by decide)) $$ [S]; · (isplitr; · iexact HR); iexact S
  iintro S
  iapply (wp_sig m ρ K c 2 _ (dev2 c) (by decide)) $$ [S]; · (isplitr; · iexact HR); iexact S
  iintro S
  iapply (wp_sig m ρ K c 3 _ (dev3 c) (by decide)) $$ [S]; · (isplitr; · iexact HR); iexact S
  iintro S
  iapply (wp_sig m ρ K c 4 _ (dev4 c) (by decide)) $$ [S]; · (isplitr; · iexact HR); iexact S
  iintro S
  iapply (wp_sig m ρ K c 5 _ (dev5 c) (by decide)) $$ [S]; · (isplitr; · iexact HR); iexact S
  iintro S
  iapply (wp_sig m ρ K c 6 _ (dev6 c) (by decide)) $$ [S]; · (isplitr; · iexact HR); iexact S
  iintro S
  iapply (wp_sig m ρ K c 7 _ (dev7 c) (by decide)) $$ [S]; · (isplitr; · iexact HR); iexact S
  iintro S
  ihave Hat := (Entails.of_eq (show (bigSep Finset.univ fun k : CI => atPos ER (kcell (c, k)) 0 ∅ 0)
      = (iprop(atPos ER (barCell c) 0 ∅ 0 ∗ (bigSep Finset.univ fun s => atPos ER (dcell 0 c s) 0 ∅ 0) ∗ (bigSep Finset.univ fun s => atPos ER (dcell 1 c s) 0 ∅ 0)
        ∗ (bigSep Finset.univ fun s => atPos ER (dcell 2 c s) 0 ∅ 0) ∗ bigSep Finset.univ fun s => atPos ER (dcell 3 c s) 0 ∅ 0) : sProp 𝕄) from
    bigSep_cells _)) $$ Hat
  icases Hat with ⟨HatB, Hat0, Hat1, Hat2, Hat3⟩
  iapply (wp_barrier m ρ K c) $$ [S HcB HatB]
  · isplitr; · iexact HR
    isplitr; · iexact Hlev
    isplitl [S]; · iexact S
    isplitl [HcB]; · iexact HcB
    iexact HatB
  iintro ⟨HO, HatB, Hpay⟩
  ihave Hpay := (Entails.of_eq (show bigSep (from' 1) (fun u => barPay c u)
      = (iprop((bigSep (from' 1) fun u => iprop(∃ f, rsPts (c + u) (-u) f)) ∗ bigSep (from' 1) fun u => iprop(∃ f, agPts (c + u) c fullShare f)) : sProp 𝕄) from
    bigSep_sep' _ _ _)) $$ Hpay
  icases Hpay with ⟨Hrp, Hap⟩
  -- the contributions leave
  ihave Hp := (Entails.of_eq (partW_eq c (part m ρ c))) $$ Hp
  icases Hp with ⟨Hp0, Hps⟩
  ihave S := (rs_start m ρ c) $$ [HO Ht0 Ht1 Hps Hrp]
  · isplitl [HO]; · iexact HO
    isplitl [Ht0]; · iexact Ht0
    isplitl [Ht1]; · iexact Ht1
    isplitl [Hps] <;> iassumption
  iapply (wp_rsend m ρ K c 1 _ (dev8 c) (by decide) _ _ (off2 c 0)) $$ [S]; · (isplitr; · iexact HR); iexact S
  iintro S
  iapply (wp_rsend m ρ K c 2 _ (dev9 c) (by decide) _ _ (off2 c 1)) $$ [S]; · (isplitr; · iexact HR); iexact S
  iintro S
  iapply (wp_rsend m ρ K c 3 _ (dev10 c) (by decide) _ _ (off2 c 2)) $$ [S]; · (isplitr; · iexact HR); iexact S
  iintro S
  iapply (wp_rsend m ρ K c 4 _ (dev11 c) (by decide) _ _ (off2 c 3)) $$ [S]; · (isplitr; · iexact HR); iexact S
  iintro S
  iapply (wp_rsend m ρ K c 5 _ (dev12 c) (by decide) _ _ (off2 c 4)) $$ [S]; · (isplitr; · iexact HR); iexact S
  iintro S
  iapply (wp_rsend m ρ K c 6 _ (dev13 c) (by decide) _ _ (off2 c 5)) $$ [S]; · (isplitr; · iexact HR); iexact S
  iintro S
  iapply (wp_rsend m ρ K c 7 _ (dev14 c) (by decide) _ _ (off2 c 6)) $$ [S]; · (isplitr; · iexact HR); iexact S
  iintro S
  ihave S := (rs_end m ρ c) $$ S
  icases S with ⟨HO, Hc0⟩
  ihave Hat1 := (Entails.of_eq (bigSep_offsets fun s => atPos ER (dcell 1 c s) 0 ∅ 0)) $$ Hat1
  icases Hat1 with ⟨Hz1, Hat1⟩
  ihave S := (wait_start m ρ 1 c _) $$ [HO HcR Hat1]
  · isplitl [HO]; · iexact HO
    isplitl [HcR]; · iexact HcR
    iexact Hat1
  iapply (wp_wait_rs m ρ K c 1 (by decide)) $$ [S]; · (isplitr; · iexact HR); (isplitr; · iexact Hlev); iexact S
  iintro S
  iapply (wp_wait_rs m ρ K c 2 (by decide)) $$ [S]; · (isplitr; · iexact HR); (isplitr; · iexact Hlev); iexact S
  iintro S
  iapply (wp_wait_rs m ρ K c 3 (by decide)) $$ [S]; · (isplitr; · iexact HR); (isplitr; · iexact Hlev); iexact S
  iintro S
  iapply (wp_wait_rs m ρ K c 4 (by decide)) $$ [S]; · (isplitr; · iexact HR); (isplitr; · iexact Hlev); iexact S
  iintro S
  iapply (wp_wait_rs m ρ K c 5 (by decide)) $$ [S]; · (isplitr; · iexact HR); (isplitr; · iexact Hlev); iexact S
  iintro S
  iapply (wp_wait_rs m ρ K c 6 (by decide)) $$ [S]; · (isplitr; · iexact HR); (isplitr; · iexact Hlev); iexact S
  iintro S
  iapply (wp_wait_rs m ρ K c 7 (by decide)) $$ [S]; · (isplitr; · iexact HR); (isplitr; · iexact Hlev); iexact S
  iintro S
  ihave S := (wait_end m ρ 1 c _) $$ S
  icases S with ⟨HO, Hrs, Hat1⟩
  -- the sums
  ihave Hr := (Entails.of_eq (rsW_eq c (rsBuf m ρ c)).symm) $$ [Hr0 Hrs]
  · isplitl [Hr0]; · iexact Hr0
    iexact Hrs
  iapply (wp_load_all c hz3 (rsBuf m ρ c)) $$ Hr; iintro Hr
  iapply (wp_own_load c _ _ (k0_off1_eq c) fa) $$ Ha0; iintro %v' Ha0
  iapply (wp_own_store m ρ c _ _ (k0_off1_eq c) fa) $$ Ha0; iintro Ha0
  -- the sums leave
  ihave Ha0 := (Entails.of_eq (agPts_deal_eq c c (agBuf m ρ))) $$ Ha0
  icases Ha0 with ⟨Hrest, Htk⟩
  ihave Htk := (Entails.of_eq (bigSep_offsets fun t => agPts c c (tok t) (agBuf m ρ))) $$ Htk
  icases Htk with ⟨Htk0, Htks⟩
  ihave S := (ag_start m ρ c) $$ [HO Ht2 Ht3 Htks Hap]
  · isplitl [HO]; · iexact HO
    isplitl [Ht2]; · iexact Ht2
    isplitl [Ht3]; · iexact Ht3
    isplitl [Htks] <;> iassumption
  iapply (wp_asend m ρ K c 1 _ (dev15 c) (by decide) _ _ (k0_off3_eq c)) $$ [S]; · (isplitr; · iexact HR); iexact S
  iintro S
  iapply (wp_asend m ρ K c 2 _ (dev16 c) (by decide) _ _ (k0_off3_eq c)) $$ [S]; · (isplitr; · iexact HR); iexact S
  iintro S
  iapply (wp_asend m ρ K c 3 _ (dev17 c) (by decide) _ _ (k0_off3_eq c)) $$ [S]; · (isplitr; · iexact HR); iexact S
  iintro S
  iapply (wp_asend m ρ K c 4 _ (dev18 c) (by decide) _ _ (k0_off3_eq c)) $$ [S]; · (isplitr; · iexact HR); iexact S
  iintro S
  iapply (wp_asend m ρ K c 5 _ (dev19 c) (by decide) _ _ (k0_off3_eq c)) $$ [S]; · (isplitr; · iexact HR); iexact S
  iintro S
  iapply (wp_asend m ρ K c 6 _ (dev20 c) (by decide) _ _ (k0_off3_eq c)) $$ [S]; · (isplitr; · iexact HR); iexact S
  iintro S
  iapply (wp_asend m ρ K c 7 _ (dev21 c) (by decide) _ _ (k0_off3_eq c)) $$ [S]; · (isplitr; · iexact HR); iexact S
  iintro S
  ihave S := (ag_end m ρ c) $$ S
  icases S with ⟨HO, Hc2⟩
  ihave Hat3 := (Entails.of_eq (bigSep_offsets fun s => atPos ER (dcell 3 c s) 0 ∅ 0)) $$ Hat3
  icases Hat3 with ⟨Hz3, Hat3⟩
  ihave S := (wait_start m ρ 3 c _) $$ [HO HcA Hat3]
  · isplitl [HO]; · iexact HO
    isplitl [HcA] <;> iassumption
  iapply (wp_wait_ag m ρ K 3 c 1 (by decide)) $$ [S]; · (isplitr; · iexact HR); (isplitr; · iexact Hlev); iexact S
  iintro S
  iapply (wp_wait_ag m ρ K 3 c 2 (by decide)) $$ [S]; · (isplitr; · iexact HR); (isplitr; · iexact Hlev); iexact S
  iintro S
  iapply (wp_wait_ag m ρ K 3 c 3 (by decide)) $$ [S]; · (isplitr; · iexact HR); (isplitr; · iexact Hlev); iexact S
  iintro S
  iapply (wp_wait_ag m ρ K 3 c 4 (by decide)) $$ [S]; · (isplitr; · iexact HR); (isplitr; · iexact Hlev); iexact S
  iintro S
  iapply (wp_wait_ag m ρ K 3 c 5 (by decide)) $$ [S]; · (isplitr; · iexact HR); (isplitr; · iexact Hlev); iexact S
  iintro S
  iapply (wp_wait_ag m ρ K 3 c 6 (by decide)) $$ [S]; · (isplitr; · iexact HR); (isplitr; · iexact Hlev); iexact S
  iintro S
  iapply (wp_wait_ag m ρ K 3 c 7 (by decide)) $$ [S]; · (isplitr; · iexact HR); (isplitr; · iexact Hlev); iexact S
  iintro S
  ihave S := (wait_end m ρ 3 c _) $$ S
  icases S with ⟨HO, Has, Hat3⟩
  -- the result
  ihave H := (Entails.of_eq (ag_read c (agBuf m ρ))) $$ [Hrest Has]
  · isplitl [Hrest]; · iexact Hrest
    iexact Has
  icases H with ⟨Ha, Hsh⟩
  iapply (wp_load_all c hz2 (agBuf m ρ)) $$ Ha; iintro Ha
  iapply (wp_load_all c hz2 fo) $$ Hout; iintro Hout
  iapply (wp_store_all c hz2 fo) $$ Hout; iintro Hout
  ihave H := (Entails.of_eq (ag_read c (agBuf m ρ)).symm) $$ [Ha Hsh]
  · isplitl [Ha] <;> iassumption
  icases H with ⟨Hrest, Has⟩
  -- the copies have left
  ihave Hat0 := (Entails.of_eq (bigSep_offsets fun s => atPos ER (dcell 0 c s) 0 ∅ 0)) $$ Hat0
  icases Hat0 with ⟨Hz0, Hat0⟩
  ihave S := (wait_start m ρ 0 c _) $$ [HO Hc0 Hat0]
  · isplitl [HO]; · iexact HO
    isplitl [Hc0] <;> iassumption
  iapply (wp_wait_part m ρ K c 1 (by decide)) $$ [S]; · (isplitr; · iexact HR); (isplitr; · iexact Hlev); iexact S
  iintro S
  iapply (wp_wait_part m ρ K c 2 (by decide)) $$ [S]; · (isplitr; · iexact HR); (isplitr; · iexact Hlev); iexact S
  iintro S
  iapply (wp_wait_part m ρ K c 3 (by decide)) $$ [S]; · (isplitr; · iexact HR); (isplitr; · iexact Hlev); iexact S
  iintro S
  iapply (wp_wait_part m ρ K c 4 (by decide)) $$ [S]; · (isplitr; · iexact HR); (isplitr; · iexact Hlev); iexact S
  iintro S
  iapply (wp_wait_part m ρ K c 5 (by decide)) $$ [S]; · (isplitr; · iexact HR); (isplitr; · iexact Hlev); iexact S
  iintro S
  iapply (wp_wait_part m ρ K c 6 (by decide)) $$ [S]; · (isplitr; · iexact HR); (isplitr; · iexact Hlev); iexact S
  iintro S
  iapply (wp_wait_part m ρ K c 7 (by decide)) $$ [S]; · (isplitr; · iexact HR); (isplitr; · iexact Hlev); iexact S
  iintro S
  ihave S := (wait_end m ρ 0 c _) $$ S
  icases S with ⟨HO, Hps, Hat0⟩
  ihave Hat2 := (Entails.of_eq (bigSep_offsets fun s => atPos ER (dcell 2 c s) 0 ∅ 0)) $$ Hat2
  icases Hat2 with ⟨Hz2, Hat2⟩
  ihave S := (wait_start m ρ 2 c _) $$ [HO Hc2 Hat2]
  · isplitl [HO]; · iexact HO
    isplitl [Hc2] <;> iassumption
  iapply (wp_wait_ag m ρ K 2 c 1 (by decide)) $$ [S]; · (isplitr; · iexact HR); (isplitr; · iexact Hlev); iexact S
  iintro S
  iapply (wp_wait_ag m ρ K 2 c 2 (by decide)) $$ [S]; · (isplitr; · iexact HR); (isplitr; · iexact Hlev); iexact S
  iintro S
  iapply (wp_wait_ag m ρ K 2 c 3 (by decide)) $$ [S]; · (isplitr; · iexact HR); (isplitr; · iexact Hlev); iexact S
  iintro S
  iapply (wp_wait_ag m ρ K 2 c 4 (by decide)) $$ [S]; · (isplitr; · iexact HR); (isplitr; · iexact Hlev); iexact S
  iintro S
  iapply (wp_wait_ag m ρ K 2 c 5 (by decide)) $$ [S]; · (isplitr; · iexact HR); (isplitr; · iexact Hlev); iexact S
  iintro S
  iapply (wp_wait_ag m ρ K 2 c 6 (by decide)) $$ [S]; · (isplitr; · iexact HR); (isplitr; · iexact Hlev); iexact S
  iintro S
  iapply (wp_wait_ag m ρ K 2 c 7 (by decide)) $$ [S]; · (isplitr; · iexact HR); (isplitr; · iexact Hlev); iexact S
  iintro S
  ihave S := (wait_end m ρ 2 c _) $$ S
  icases S with ⟨HO, Htks, Hat2⟩
  -- everything put together again
  ihave Hp := (Entails.of_eq (partW_eq c (part m ρ c)).symm) $$ [Hp0 Hps]
  · isplitl [Hp0]; · iexact Hp0
    iexact Hps
  ihave Htk := (Entails.of_eq (bigSep_offsets fun t => agPts c c (tok t) (agBuf m ρ)).symm) $$ [Htk0 Htks]
  · isplitl [Htk0]; · iexact Htk0
    iexact Htks
  ihave Ha0 := (Entails.of_eq (agPts_deal_eq c c (agBuf m ρ)).symm) $$ [Hrest Htk]
  · isplitl [Hrest]; · iexact Hrest
    iexact Htk
  ihave Ha := (Entails.of_eq (agW_eq c fullShare (agBuf m ρ)).symm) $$ [Ha0 Has]
  · isplitl [Ha0]; · iexact Ha0
    iexact Has
  imod (close_bar m ρ K c) $$ [HatB] with HvB
  · isplitr; · iexact HR
    iexact HatB
  imod (close_kind m ρ K 0 c) $$ [Hz0 Hat0] with Hv0
  · isplitr; · iexact HR
    isplitl [Hz0] <;> iassumption
  imod (close_kind m ρ K 1 c) $$ [Hz1 Hat1] with Hv1
  · isplitr; · iexact HR
    isplitl [Hz1] <;> iassumption
  imod (close_kind m ρ K 2 c) $$ [Hz2 Hat2] with Hv2
  · isplitr; · iexact HR
    isplitl [Hz2] <;> iassumption
  imod (close_kind m ρ K 3 c) $$ [Hz3 Hat3] with Hv3
  · isplitr; · iexact HR
    isplitl [Hz3] <;> iassumption
  rw [wp_ret]
  imodintro
  iapply Hk
  unfold Φ₁ scratch
  rw [bigSep_cells]
  isplitr [HO Htab Hids Hout]
  · isplitl [Hp Hr Ha]
    · isplitl [Hp]; · iexists _; iexact Hp
      isplitl [Hr]; · iexists _; iexact Hr
      iexists _; iexact Ha
    isplitl [HvB]; · iexact HvB
    isplitl [Hv0]; · iexact Hv0
    isplitl [Hv1]; · iexact Hv1
    isplitl [Hv2]; · iexact Hv2
    iexact Hv3
  isplitl [HO]
  · ihave HO := (Entails.of_eq (congrArg (ow c) (Os_done c))) $$ HO
    iexact HO
  isplitl [Htab]; · iexact Htab
  isplitl [Hids]; · iexact Hids
  iexact Hout

end Cert.Lookup

end
-- ==== Proof.Launch.lean ====
/-
The launch: what each device is dealt, and the run of the whole program on the eight devices.
-/
module

public import proofs.«01_k».proof.Proof.Run
public import Idealize.ShloMosaic.Lib.Pipeline.CollectiveSegs

@[expose] public section

noncomputable section

namespace Cert.Lookup

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body as the launch asks for it -/

theorem fetch0 (t : Fin cfg0.N) : (cfg0.win (0 : Fin 3)).fetch t = true := by rw [fin_N0 t]; rfl
theorem fetch1 (t : Fin cfg0.N) : (cfg0.win (1 : Fin 3)).fetch t = true := by rw [fin_N0 t]; rfl

theorem before0 (c : Dev nD) (d) : (dats m ρ 0 c).before (0 : Fin 3) t0_0 d = tab m ρ c := by
  unfold Dat.before; rw [if_pos (fetch0 t0_0)]; rfl
theorem before1 (c : Dev nD) (d) : (dats m ρ 0 c).before (1 : Fin 3) t0_0 d = ids m ρ c := by
  unfold Dat.before; rw [if_pos (fetch1 t0_0)]; rfl

/-- A staging buffer holding `X`, as the launch says it. -/
abbrev stg (c : Dev nD) (b : Ref sig .tc) (X : b.ty.Contents (Elt F)) : sProp 𝕄 :=
  iprop(∃ f : Buf (Elt F) ((c : Thread nD τ).loc b), ⌜f = X⌝ ∗ ((c : Thread nD τ).loc b ↦{fullShare} f))

def bodyPre (c : Dev nD) : sProp 𝕄 :=
  iprop(Φ₀ m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def bodyPost (c : Dev nD) : sProp 𝕄 :=
  iprop(Φ₁ c ∗ (dats m ρ 0 c).owesAt () t0_0.succ ∗ stg c cc0_stg0_0 (tab m ρ c) ∗ stg c cc0_stg1_0 (ids m ρ c) ∗ stg c cc0_stg2_0 (outBuf m ρ))

theorem body_run (c : Dev nD) : bodyPre m ρ c ⊢ wpc c theBody (fun _ => bodyPost m ρ c) := by
  unfold bodyPre Φ₀ start Dat.owesAt Pipeline.owesWithin
  iintro ⟨⟨⟨⟨%K, HR, Hlin⟩, Hcr, Hlev⟩, Hscr⟩, ⟨%W, %hW, HO⟩, ⟨%d0, %g0, %h0, Htab⟩, ⟨%d1, %g1, %h1, Hids⟩, ⟨%d2, %g2, %h2, Hout⟩⟩
  have h0' : g0 = tab m ρ c := h0.trans (before0 m ρ c d0)
  have h1' : g1 = ids m ρ c := h1.trans (before1 m ρ c d1)
  subst h0' h1'
  iapply (run_body m ρ K c) $$ [HR Hlin Hcr Hlev Hscr HO Htab Hids Hout]
  · isplitl [HR]; · iexact HR
    isplitl [Hlev]; · iexact Hlev
    isplitl [Hlin]; · iexact Hlin
    isplitl [Hcr]; · iexact Hcr
    isplitl [Hscr]; · iexact Hscr
    isplitl [HO]; · (unfold ow; iexists W; iexact HO)
    isplitl [Htab]; · iexact Htab
    isplitl [Hids]; · iexact Hids
    iexists g2; iexact Hout
  unfold bodyPost Dat.owesAt Pipeline.owesWithin ow
  rw [show (dats m ρ 0 c).owed t0_0.succ = 0 from rfl]
  iintro ⟨HΦ, ⟨%W', HO⟩, Htab, Hids, Hout⟩
  isplitl [HΦ]; · iexact HΦ
  isplitl [HO]
  · iexists W'; isplitr; · ipureintro; exact fun _ _ => Or.inl trivial
    iexact HO
  isplitl [Htab]
  · iexists _; isplitr; · (ipureintro; rfl)
    iexact Htab
  isplitl [Hids]
  · iexists _; isplitr; · (ipureintro; rfl)
    iexact Hids
  iexists _; isplitr; · (ipureintro; rfl)
  iexact Hout

theorem body_obligation (c : Dev nD) : BodyObligation (dats (F := F) m ρ 0 c) (defs₀ (F := F)) 𝒱₀ () Set.univ := fun t => by
  rw [fin_N0 t, bigSep_W0, bigSep_W0]
  simp only [owns_whole_eq]
  exact body_run m ρ c

/-! ## What the launch mints -/

/-- The launch's own semaphores: four kinds of eight. -/
abbrev osem : Fin 4 × Dev nD → SemLoc sig := fun js => .dma (dsem js.1 js.2)

theorem ownSemFacts : Pipeline.OwnSemFacts cfg0.spec osem := by decide

theorem csem_injective : Function.Injective csem := by
  rintro (⟨⟩ | ⟨j, s⟩) (⟨⟩ | ⟨j', s'⟩) h
  · rfl
  · cases h
  · cases h
  · obtain ⟨h1, h2⟩ := dsem_inj (SemLoc.dma.inj h); subst h1 h2; rfl

theorem kcell_injective : Function.Injective (kcell : Dev nD × CI → GSem nD τ sig) := by
  rintro ⟨c, k⟩ ⟨c', k'⟩ h
  have h1 : c = c' := congrArg (fun g : GSem nD τ sig => g.1.1) h
  have h2 : k = k' := csem_injective (congrArg Prod.snd h)
  subst h1 h2; rfl

def theCells : Finset (GSem nD τ sig) := Finset.univ.map ⟨kcell, kcell_injective⟩

/-- The rights to raise: one for each offset on a barrier, one on every other cell. -/
abbrev TI : Type := Dev nD ⊕ (Fin 4 × Dev nD)
abbrev tokOf (ct : Dev nD × TI) : GSem nD τ sig × ℕ × Dev nD :=
  Sum.elim (fun t => (barCell ct.1, 0, t)) (fun js => (dcell js.1 ct.1 js.2, 0, 0)) ct.2
theorem tokOf_injective : Function.Injective tokOf := by
  rintro ⟨c, k⟩ ⟨c', k'⟩ h
  have h1 : c = c' := by
    have := congrArg (fun x : GSem nD τ sig × ℕ × Dev nD => x.1.1.1) h
    rcases k with t | js <;> rcases k' with t' | js' <;> exact this
  subst h1
  rcases k with t | ⟨j, s⟩ <;> rcases k' with t' | ⟨j', s'⟩
  · have : t = t' := congrArg (fun x : GSem nD τ sig × ℕ × Dev nD => x.2.2) h
    subst this; rfl
  · exact absurd (congrArg (fun x : GSem nD τ sig × ℕ × Dev nD => x.1.2) h) (fun h' => by cases h')
  · exact absurd (congrArg (fun x : GSem nD τ sig × ℕ × Dev nD => x.1.2) h) (fun h' => by cases h')
  · obtain ⟨h2, h3⟩ := dsem_inj (SemLoc.dma.inj (congrArg (fun x : GSem nD τ sig × ℕ × Dev nD => x.1.2) h)); subst h2 h3; rfl
def theToks : Finset (GSem nD τ sig × ℕ × Dev nD) := Finset.univ.map ⟨tokOf, tokOf_injective⟩

def u₀ : UU := (initOf (Pipeline.cells cfgs cellOf_inj) (Pipeline.launchToks cfgs cellOf_inj), initOf theCells theToks)

/-- The rights to raise device `c`'s cells. -/
def toks (c : Dev nD) : sProp 𝕄 :=
  iprop((bigSep Finset.univ fun t : Dev nD => dutyTok ER (barCell c) 0 t) ∗ (bigSep Finset.univ fun s : Dev nD => dutyTok ER (dcell 0 c s) 0 0)
    ∗ (bigSep Finset.univ fun s : Dev nD => dutyTok ER (dcell 1 c s) 0 0) ∗ (bigSep Finset.univ fun s : Dev nD => dutyTok ER (dcell 2 c s) 0 0)
    ∗ bigSep Finset.univ fun s : Dev nD => dutyTok ER (dcell 3 c s) 0 0)

/-- What each device has to begin with, -/
def G (c : Dev nD) : sProp 𝕄 :=
  iprop((bigSep Finset.univ fun k : CI => roundState ER (Rd m ρ) (kcell (c, k)) 0)
    ∗ (bigSep Finset.univ fun k : CI => iprop(atPos ER (kcell (c, k)) 0 ∅ 0 ∗ reached ER (kcell (c, k)) 0)) ∗ toks c)
/-- and what it has once the cells of all devices are set up. -/
def G' (c : Dev nD) : sProp 𝕄 := iprop(∃ K, records m ρ K ∗ linear c)

theorem fund_cells : BI.own (ER (initOf theCells theToks)) ⊢ (|==> bigSep Finset.univ (G m ρ) : sProp 𝕄) := by
  have hX (Φ : GSem nD τ sig → sProp 𝕄) : bigSep theCells Φ = bigSep Finset.univ fun c : Dev nD => bigSep Finset.univ fun k : CI => Φ (kcell (c, k)) := by
    unfold theCells; rw [bigSep_map, bigSep_univ_prod]; rfl
  have hT : bigSep theToks (fun x => (dutyTok ER x.1 x.2.1 x.2.2 : sProp 𝕄)) = bigSep Finset.univ fun c : Dev nD => toks c := by
    unfold theToks; rw [bigSep_map, bigSep_univ_prod]
    refine bigSep_congr fun c _ => ?_
    unfold toks
    rw [bigSep_univ_sum, bigSep_univ_prod,
      bigSep_univ_eq_bigSepL [(0 : Fin 4), 1, 2, 3] (by decide) (by decide) (fun j => bigSep Finset.univ fun s : Dev nD => _)]
    rfl
  iintro H
  imod (Rounds.fund ER (Rd m ρ) theCells theToks) $$ H with ⟨Hst, Hr, Hat, Htok⟩
  imodintro
  ihave Hst := (Entails.of_eq (hX fun g => roundState ER (Rd m ρ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-! ## The cells of all devices set up -/

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    (bigSep Finset.univ fun k : CI => semVal (kcell (c, k)) 0 : sProp 𝕄)
      = iprop(unscopedSems0 c ∗ Pipeline.ownSems0 (Ix := Unit) (Name := ℕ) (U := UU) (Lvl := ℕ) (Val := Elt F) (τ := τ) osem c) := by
  rw [bigSep_univ_sum, bigSep_univ_eq_bigSepL [()] (by decide) (by decide) (fun a : Unit => (semVal (kcell (c, .inl a)) 0 : sProp 𝕄)), unscopedSems0_eq]; rfl

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : CI => iprop(∃ κ : ℕ, cellInv ER (Rd m ρ) κ (kcell (c, k))))
          ∗ (bigSep Finset.univ fun k : CI => iprop(atPos ER (kcell (c, k)) 0 ∅ 0 ∗ reached ER (kcell (c, k)) 0)) ∗ toks c) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun k : CI => semVal (kcell (c, k)) 0) ∗ bigSep Finset.univ fun k : CI => roundState ER (Rd m ρ) (kcell (c, k)) 0)
      ⊢ (|={Set.univ}=> bigSep Finset.univ fun k => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Turning the rights round: device `c`'s right number `t` is used by the device `t` places on, as its number `-t`. -/
def turn : Dev nD × Dev nD ≃ Dev nD × Dev nD where
  toFun p := (p.1 + p.2, -p.2)
  invFun p := (p.1 + p.2, -p.2)
  left_inv p := Prod.ext (add_neg p.1 p.2) (neg_neg' p.2)
  right_inv p := Prod.ext (add_neg p.1 p.2) (neg_neg' p.2)

omit [FloatOps F] in
theorem bigSep_turn (Φ : Dev nD → Dev nD → sProp 𝕄) :
    (bigSep Finset.univ fun c => bigSep Finset.univ fun t => Φ c t) = bigSep Finset.univ fun c => bigSep Finset.univ fun t => Φ (c + t) (-t) := by
  rw [← bigSep_univ_prod fun p : Dev nD × Dev nD => Φ p.1 p.2, bigSep_univ_equiv turn, ← bigSep_univ_prod fun p : Dev nD × Dev nD => Φ (p.1 + p.2) (-p.2)]; rfl

omit [FloatOps F] in
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_turn fun c t => (dutyTok ER (barCell c) 0 t : sProp 𝕄),
    bigSep_turn fun c s => (dutyTok ER (dcell 1 c s) 0 0 : sProp 𝕄), bigSep_turn fun c s => (dutyTok ER (dcell 3 c s) 0 0 : sProp 𝕄)]
  rw [bigSep_sep', bigSep_sep', bigSep_sep', bigSep_sep']
  have h (Φ : Dev nD → Dev nD → sProp 𝕄) : (bigSep Finset.univ fun c => bigSep Finset.univ fun t => Φ c t) ⊢ bigSep Finset.univ fun c => bigSep (from' 1) fun t => Φ c t :=
    bigSep_mono fun c _ => bigSep_subset (Finset.subset_univ _)
  iintro ⟨HB, H0, H1, H2, H3⟩
  isplitl [HB]; · iapply (h _); iexact HB
  isplitl [H0 H1]
  · isplitl [H0]; · iapply (h _); iexact H0
    iapply (h _); iexact H1
  isplitl [H2]; · iapply (h _); iexact H2
  iapply (h _); iexact H3

theorem regroup :
    (bigSep Finset.univ fun c : Dev nD => iprop((bigSep Finset.univ fun k : CI => iprop(∃ κ : ℕ, cellInv ER (Rd m ρ) κ (kcell (c, k))))
          ∗ (bigSep Finset.univ fun k : CI => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × CI => iprop(∃ κ : ℕ, cellInv ER (Rd m ρ) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄))]
  iintro ⟨HI, ⟨Hat, #Hre⟩, Htok⟩
  ihave HK := (BI.bigSep_exists_pi Finset.univ (fun (ck : Dev nD × CI) (κ : ℕ) => (cellInv ER (Rd m ρ) κ (kcell ck) : sProp 𝕄))) $$ HI
  icases HK with ⟨%K, #HI⟩
  ihave Htok := (toks_around (F := F)) $$ Htok
  iapply (show iprop(records m ρ K ∗ bigSep Finset.univ fun c : Dev nD => linear c) ⊢ (bigSep Finset.univ (G' m ρ) : sProp 𝕄) from
    (sep_mono_left (BI.bigSep_of_persistent Finset.univ (records m ρ K))).trans (by
      rw [← bigSep_sep']
      exact bigSep_mono fun c _ => (show iprop(records m ρ K ∗ linear c) ⊢ (G' m ρ c : sProp 𝕄) from by
        unfold G'; iintro H; iexists K; iexact H)))
  isplitr
  · unfold records; isplitl; · iexact HI
    iexact Hre
  unfold linear; rw [bigSep_sep']
  isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit of the launch -/

/-- How many pairs of a device and an offset fit. -/
def hits (P : Dev nD → Dev nD → Prop) [∀ d t, Decidable (P d t)] : ℕ := ∑ d : Dev nD, ∑ t ∈ from' 1, if P d t then 1 else 0

theorem tally_hits (g : GSem nD τ sig) (f : Dev nD → Dev nD → GSem nD τ sig) (k : ℕ) (P : Dev nD → Dev nD → Prop) [∀ d t, Decidable (P d t)]
    (h : ∀ d t, g = f d t ↔ P d t) : (∑ d : Dev nD, (∑ t ∈ from' 1, (tallyAt (f d t) () k : CellTallies nD τ sig Unit)) g ()) = k * hits P := by
  unfold hits; rw [Finset.mul_sum]
  refine Finset.sum_congr rfl fun d _ => ?_
  rw [Finset.sum_apply, Finsupp.finset_sum_apply, Finset.mul_sum]
  refine Finset.sum_congr rfl fun t _ => ?_
  rw [tallyAt_apply]
  by_cases hp : P d t
  · rw [if_pos hp, if_pos ⟨(h d t).mpr hp, rfl⟩, Nat.mul_one]
  · rw [if_neg hp, if_neg fun h' => hp ((h d t).mp h'.1), Nat.mul_zero]

theorem bar_iff (a b : Dev nD) : barCell a = barCell b ↔ a = b :=
  ⟨fun h => congrArg (fun g : GSem nD τ sig => g.1.1) h, fun h => by rw [h]⟩
theorem dcell_iff (j j' : Fin 4) (a b s s' : Dev nD) : dcell j a s = dcell j' b s' ↔ j = j' ∧ a = b ∧ s = s' :=
  ⟨fun h => have hs := dsem_inj (SemLoc.dma.inj (congrArg Prod.snd h)); ⟨hs.1, congrArg (fun g : GSem nD τ sig => g.1.1) h, hs.2⟩,
    fun h => by rw [h.1, h.2.1, h.2.2]⟩
theorem bar_ne_d (j : Fin 4) (a b s : Dev nD) : barCell a ≠ dcell j b s := fun h => by have := congrArg Prod.snd h; cases this

theorem hits_none (P : Dev nD → Dev nD → Prop) [∀ d t, Decidable (P d t)] (h : ∀ d t, ¬ P d t) : hits P = 0 :=
  Finset.sum_eq_zero fun d _ => Finset.sum_eq_zero fun t _ => if_neg (h d t)
theorem hits_bar (c : Dev nD) : hits (fun d t => c = d + t) = 7 := by revert c; decide
theorem hits_d (c s : Dev nD) (hs : s ≠ 0) : hits (fun d t => c = d + t ∧ s = -t) = 1 := by revert c s; decide

/-- What all devices together owe a cell at the start. -/
theorem owed_all (g : GSem nD τ sig) (P Q R : Dev nD → Dev nD → Prop) [∀ d t, Decidable (P d t)] [∀ d t, Decidable (Q d t)] [∀ d t, Decidable (R d t)]
    (hP : ∀ d t, g = dcell 3 (d + t) (-t) ↔ P d t) (hQ : ∀ d t, g = dcell 1 (d + t) (-t) ↔ Q d t) (hR : ∀ d t, g = barCell (d + t) ↔ R d t) :
    launchCredit (Pipeline.owing fun d => Os d 1 1 1) 0 g () = N * hits P + N * hits Q + 1 * hits R := by
  rw [Pipeline.launchCredit_owing, ← tally_hits g _ N P hP, ← tally_hits g _ N Q hQ, ← tally_hits g _ 1 R hR, ← Finset.sum_add_distrib, ← Finset.sum_add_distrib]
  refine Finset.sum_congr rfl fun d _ => ?_
  unfold Os
  rw [Pi.add_apply, Finsupp.add_apply, Pi.add_apply, Finsupp.add_apply]

theorem owed_bar (c : Dev nD) : launchCredit (Pipeline.owing fun d => Os d 1 1 1) 0 (barCell c) () = 7 := by
  rw [owed_all (barCell c) (fun _ _ => False) (fun _ _ => False) (fun d t => c = d + t) (fun d t => iff_of_false (bar_ne_d 3 _ _ _) not_false)
    (fun d t => iff_of_false (bar_ne_d 1 _ _ _) not_false) (fun d t => bar_iff c _), hits_none _ (fun _ _ => not_false), hits_bar, Nat.mul_zero]
theorem owed_rs (c s : Dev nD) (hs : s ≠ 0) : launchCredit (Pipeline.owing fun d => Os d 1 1 1) 0 (dcell 1 c s) () = N := by
  rw [owed_all (dcell 1 c s) (fun _ _ => False) (fun d t => c = d + t ∧ s = -t) (fun _ _ => False)
    (fun d t => iff_of_false (fun h => absurd ((dcell_iff 1 3 _ _ _ _).mp h).1 (by decide)) not_false)
    (fun d t => (dcell_iff 1 1 c _ s _).trans (and_iff_right rfl))
    (fun d t => iff_of_false (bar_ne_d 1 _ _ _).symm not_false), hits_none _ (fun _ _ => not_false), hits_d c s hs, Nat.mul_zero, Nat.mul_zero, Nat.mul_one, Nat.zero_add, Nat.add_zero]
theorem owed_ag (c s : Dev nD) (hs : s ≠ 0) : launchCredit (Pipeline.owing fun d => Os d 1 1 1) 0 (dcell 3 c s) () = N := by
  rw [owed_all (dcell 3 c s) (fun d t => c = d + t ∧ s = -t) (fun _ _ => False) (fun _ _ => False)
    (fun d t => (dcell_iff 3 3 c _ s _).trans (and_iff_right rfl))
    (fun d t => iff_of_false (fun h => absurd ((dcell_iff 3 1 _ _ _ _).mp h).1 (by decide)) not_false)
    (fun d t => iff_of_false (bar_ne_d 3 _ _ _).symm not_false), hits_none _ (fun _ _ => not_false), hits_d c s hs, Nat.mul_zero, Nat.mul_zero, Nat.mul_one, Nat.add_zero]

theorem on_of_owed {g : GSem nD τ sig} {k : ℕ} (h : launchCredit (Pipeline.owing fun d => Os d 1 1 1) 0 g () = k) :
    tallyOn g (launchCredit (Pipeline.owing fun d => Os d 1 1 1) 0 g) = (tallyAt g () k : CellTallies nD τ sig Unit) := by
  unfold tallyAt; refine congrArg _ (Finsupp.ext fun u => ?_); cases u
  rw [h, Finsupp.single_eq_same]

omit [FloatOps F] in
theorem creds_of_launch (c : Dev nD) : (Pipeline.launchCred (fun d => Os d 1 1 1) c : sProp 𝕄) ⊢ creds c := by
  unfold Pipeline.launchCred
  refine (bigSep_subset (Finset.subset_univ (Finset.univ.map ⟨csem, csem_injective⟩))).trans ?_
  rw [bigSep_map]
  refine (show _ ⊢ _ from Entails.of_eq (bigSep_cells (F := F) fun k =>
    cred (tallyOn (kcell (c, k)) (launchCredit (Pipeline.owing fun d => Os d 1 1 1) 0 (kcell (c, k)))))).trans ?_
  have hl (j : Fin 4) (h : ∀ s : Dev nD, s ≠ 0 → launchCredit (Pipeline.owing fun d => Os d 1 1 1) 0 (dcell j c s) () = N) :
      (bigSep Finset.univ fun s : Dev nD => cred (tallyOn (dcell j c s) (launchCredit (Pipeline.owing fun d => Os d 1 1 1) 0 (dcell j c s))))
        ⊢ (bigSep (from' 1) fun s => cred (tallyAt (dcell j c s) () N) : sProp 𝕄) :=
    (bigSep_subset (Finset.subset_univ _)).trans (bigSep_mono fun s hm => Entails.of_eq (congrArg cred (on_of_owed (h s fun h0 => zero_notMem (h0 ▸ hm)))))
  unfold creds
  iintro ⟨HB, -, H1, -, H3⟩
  isplitl [HB]
  · iapply (show _ ⊢ _ from Entails.of_eq (congrArg (cred (Val := Elt F) (Name := ℕ) (U := UU) (Lvl := ℕ)) (on_of_owed (owed_bar c)))); iexact HB
  isplitl [H1]
  · iapply (hl 1 (owed_rs c)); iexact H1
  iapply (hl 3 (owed_ag c)); iexact H3

/-! ## In and out of the launch -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred (fun d => Os d 1 1 1) c ∗ prngReg c (ρ c) ∗ G' m ρ c)
      ⊢ |={Set.univ}=> iprop(start m ρ c ∗ emp) := by
  iintro ⟨-, Hlev, Hcr, -, HG⟩
  ihave Hc := (creds_of_launch (F := F) c) $$ Hcr
  imodintro
  unfold start G'
  isplitl
  · isplitl [HG]; · iexact HG
    isplitl [Hc] <;> iassumption
  iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ scratch
  iintro ⟨Hr, Hz⟩
  ihave Hz := (Entails.of_eq (sems0_eq (F := F) c)) $$ Hz
  icases Hz with ⟨Hu, Ho⟩
  isplitl [Hu]; · iexact Hu
  isplitl [Ho]; · iexact Ho
  iexact Hr

/-- The launch's own waits, for its copies in and out, lie below everything. -/
theorem stage_level (w : Fin cfg0.W) (s : Fin (cfg0.win w).nbuf) : lvOf (.dma ((cfg0.win w).sem s)) = 0 := by
  fin_cases w <;> fin_cases s <;> rfl

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait c _ 0 1 1 1 (le_of_eq (stage_level w s)) (by decide) (fun _ => by decide) (fun _ => by decide)
    · show _ ⊢ MayWait _ _ _ 0
      rw [MayWait_zero]; iintro -; iempintro

/-! ## The run -/

/-- Every array of the launch at the contents the body leaves. -/
def QC : PUnit × MemSt nD τ sig (Elt F) → Prop := fun r =>
  ∀ c : Dev nD, ∀ w : Fin cfg0.W, r.2.mem ((cfg0.win w).arr.view.loc (c : Thread nD τ)) = (dats m ρ 0 c).arrAt w cfg0.N

/-- On eight devices, for any float values and from any memory with all counters at zero, every fair execution of the
    program ends, with the arrays at the computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun c => Os c 1 1 1) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The two operands are left as they were. -/
theorem table_kept (c : Dev nD) : (dats m ρ 0 c).arrAt (0 : Fin 3) cfg0.N = (s₀ m ρ).mem ((cfg0.win (0 : Fin 3)).arr.view.loc (c : Thread nD τ)) :=
  (dats m ρ 0 c).arrAt_in (0 : Fin 3) rfl _
theorem ids_kept (c : Dev nD) : (dats m ρ 0 c).arrAt (1 : Fin 3) cfg0.N = (s₀ m ρ).mem ((cfg0.win (1 : Fin 3)).arr.view.loc (c : Thread nD τ)) :=
  (dats m ρ 0 c).arrAt_in (1 : Fin 3) rfl _

end Cert.Lookup

end
-- ==== Proof.Frames.lean ====
/-
What the run says of memory and counters: the arguments kept, every counter back at zero, the result in its array.
-/
module

public import proofs.«01_k».proof.Defs
public import proofs.«01_k».proof.Proof.Launch
public import proofs.«01_k».proof.Proof.Gen.Kernel
public import proofs.«01_k».proof.Proof.Gen.ReferenceIdeal.Run
public import Idealize.ShloMosaic.Lib.Quiescent
public import Idealize.ShloMosaic.Lib.Pipeline.ValueKit.Geometry

@[expose] public section

noncomputable section

namespace Cert.Lookup

open Idealize.ShloMosaic Idealize.SL.Sem Idealize.ShloMosaic.TcCoe

section Kernel
open Cert.KernelIdeal Cert.KernelIdeal.Gen

variable {F : FTy → Type} [FloatOps F]
variable (m : (ℓ : Loc nD τ sig) → Buf (Elt F) ℓ) (ρ : Dev nD → PrngReg)

/-- The result array is the computed matrix, whole. -/
theorem result_array (c : Dev nD) : (dats m ρ 0 c).arrAt (2 : Fin 3) cfg0.N = outBuf m ρ :=
  (dats m ρ 0 c).arrAt_eq_of_after_last (2 : Fin 3) t0_0 (by decide +kernel) (outBuf m ρ) fun j => by
    rfl

/-- At any float values: the program ends with the computed matrix in every device's result array, both arguments as
    they were, and every counter at zero. -/
theorem run_result : θ_run defs (onTc (τ := τ) (main (F := F))) ⟨m, fun _ => 0, ρ⟩ (fun r =>
    (∀ c : Dev nD, r.2.mem ((c.tc : Thread nD τ).loc main_v1) = outBuf m ρ
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => ⟨(h.1 c (2 : Fin 3)).trans (result_array m ρ c),
    (h.1 c (0 : Fin 3)).trans (table_kept m ρ c), (h.1 c (1 : Fin 3)).trans (ids_kept m ρ c)⟩, h.2⟩) (run_main m ρ)

/-- The same without the result. -/
theorem run_kept : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => (h.1 c).2, h.2⟩) (run_result m ρ)

end Kernel

section Same
attribute [local instance] Cert.Kernel.Gen.facts Cert.KernelIdeal.Gen.facts

/-- The two printed programs have the same bodies -/
theorem same_bodies : Cert.Kernel.defs₀ (F := Bits) = Cert.KernelIdeal.defs₀ (F := Bits) :=
  congrArg Defs.onTc (funext fun l => funext fun x => by
    obtain rfl : l = (0 : Fin 1) := Subsingleton.elim _ _
    rfl)
/-- and so the same definitions. -/
theorem same_defs : Cert.Kernel.defs (F := Bits) = Cert.KernelIdeal.defs (F := Bits) :=
  congrArg (Pipeline.defs (Cert.KernelIdeal.pcfgs (F := Bits))) same_bodies

end Same

/-- The program as printed runs, keeps its arguments and leaves every counter at zero. -/
theorem frame_kernel : Cert.quiescent_Kernel (hKernel := Cert.Kernel.Gen.facts) := fun m ρ _ => by
  have h := run_kept (F := Bits) m ρ
  rw [← same_defs] at h
  exact h

/-- So does the program over exact values, -/
theorem frame_ideal : Cert.quiescent_KernelIdeal (hKernelIdeal := Cert.KernelIdeal.Gen.facts) := fun m ρ _ => run_kept (F := Ideal) m ρ

/-- and the reference. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The side conditions the two printed forms of the index condition state. -/
theorem facts_pre : Cert.Pre_idx_in_range_KernelIdeal.Facts := ⟨by decide, by decide, by decide⟩
theorem facts_pre_ref : Cert.Pre_idx_in_range_ReferenceIdeal.Facts := ⟨by decide, by decide, by decide⟩

end Cert.Lookup

end
-- ==== Proof.Value.lean ====
/-
The mathematics: over exact values the sum of all devices' contributions is the table row each index names.
-/
module

public import proofs.«01_k».proof.Proof.Frames
public import Idealize.ShloMosaic.Lib.Pointwise
public import Idealize.ShloMosaic.Lib.Routing.Ops
public import Idealize.ShloMosaic.Lib.ReduceAll
public import Idealize.ShloMosaic.Lib.Layout
public import Idealize.ShloMosaic.PureOps.Ideal.Laws

@[expose] public section

noncomputable section

namespace Cert.Lookup

open Idealize.ShloMosaic hiding ix1 ix2 ix3
open Idealize.SL.Sem Idealize.ShloMosaic.TcCoe Idealize.ShloMosaic.ValueIdx

section Kernel
open Cert.KernelIdeal Cert.KernelIdeal.Gen
attribute [local instance] Cert.KernelIdeal.Gen.facts

/-! ## One device's contribution -/

/-- The word the kernel forms for its first row number. -/
theorem base_word (c : Dev nD) : Scalar.muli (Scalar.remsi (Scalar.divsi (Dev.word c) 1#32) 8#32) 2048#32 = BitVec.ofNat 32 (2048 * c.val) := by
  revert c; decide

/-- A comparison of words, widened and read as a number: one where it holds, zero elsewhere. -/
theorem chosen (b w : BitVec 32) (p : Prop) [Decidable p] (h : b = w ↔ p) :
    ((((IntOp.cmpi .eq b w).setWidth 32).toInt : ℝ) : EReal) = if p then 1 else 0 := by
  by_cases hp : p
  · rw [if_pos hp, h.mpr hp, show IntOp.cmpi .eq w w = 1#1 from congrArg BitVec.ofBool (beq_self_eq_true w)]
    show (((1 : ℤ) : ℝ) : EReal) = 1
    rw [Int.cast_one, EReal.coe_one]
  · rw [if_neg hp, show IntOp.cmpi .eq b w = 0#1 from congrArg BitVec.ofBool (beq_eq_false_iff_ne.mpr fun e => hp (h.mp e))]
    show (((0 : ℤ) : ℝ) : EReal) = 0
    rw [Int.cast_zero, EReal.coe_zero]

/-- Row number `k` plus the device's first row number, as words, is the index `w` exactly when it is as numbers. -/
theorem word_eq (k c : ℕ) (w : BitVec 32) (hk : k < 2048) (hc : c < 8) :
    IntOp.addi (BitVec.ofNat 32 k) (BitVec.ofNat 32 (2048 * c)) = w ↔ w.toNat = 2048 * c + k := by
  constructor
  · rintro rfl
    show (BitVec.ofNat 32 k + BitVec.ofNat 32 (2048 * c)).toNat = _
    rw [BitVec.toNat_add, BitVec.toNat_ofNat, BitVec.toNat_ofNat]; omega
  · intro h
    apply BitVec.eq_of_toNat_eq
    show (BitVec.ofNat 32 k + BitVec.ofNat 32 (2048 * c)).toNat = _
    rw [BitVec.toNat_add, BitVec.toNat_ofNat, BitVec.toNat_ofNat, h]; omega

/-- The printed matrix product, entry by entry. -/
theorem product_entry (A : FVec Ideal S512x2048 .bf16) (B : FVec Ideal S2048x256 .bf16) (i : Fin 512) (j : Fin 256) :
    (matmul (F := Ideal) dot_S512x2048_S2048x256_S512x256_1_0_0_1_n_n none A B (constant S512x256 .f32 0x00000000#32) (ix2 i j) : EReal)
      = ∑ k : Fin 2048, (A (ix2 i k) : EReal) * (B (ix2 k j) : EReal) := by
  show Ideal.matmul dot_S512x2048_S2048x256_S512x256_1_0_0_1_n_n A B (constant (F := Ideal) S512x256 .f32 0x00000000#32) (ix2 i j) = _
  refine (Ideal.matmul_apply₁_of dot_S512x2048_S2048x256_S512x256_1_0_0_1_n_n (a := 1) rfl (K := 2048) rfl _ _ _ (ix2 i j)
    (fun k => ix2 i k) (fun k => ix2 k j) (fun k => ?_) (fun k => ?_)).trans ?_
  · funext a
    match a with
    | ⟨0, _⟩ => rfl
    | ⟨1, _⟩ => rfl
  · funext a
    match a with
    | ⟨0, _⟩ => rfl
    | ⟨1, _⟩ => rfl
  exact (congrArg (· + _) Ideal.ofBits_zero_f32).trans (zero_add _)

/-- Entry `(i, j)` of device `c`'s contribution, as the printed sum. -/
theorem part_sum (c : Dev nD) (v : Vec Ideal S512 .i32) (T : Vec Ideal S2048x256 .bf16) (i : Fin 512) (j : Fin 256) :
    (k0_pay1 c v T (ix2 i j) : EReal) = ∑ k : Fin 2048, (if (v (ix1 i)).toNat = 2048 * c.val + k.val then (1 : EReal) else 0) * T (ix2 k j) := by
  unfold k0_pay1
  rw [shapeCast_self, shapeCast_self, shapeCast_self]
  refine (product_entry _ _ i j).trans (Finset.sum_congr rfl fun k _ => congrArg (· * (T (ix2 k j) : EReal)) ?_)
  refine chosen _ _ _ ?_
  rw [broadcastTo_apply _ broadcasts_S512x1_S512x2048 (ix2 i k) (ix2 i (0 : Fin 1)) (fun a => by fin_cases a <;> rfl),
    shapeCast_apply v shapeCasts_S512_S512x1 (ix2 i (0 : Fin 1)) (ix1 i) (by
      rw [Shape.rowMajor_val_one, Shape.rowMajor_val_two]; exact (Nat.mul_one _).symm), base_word]
  refine Iff.trans (Eq.congr_left ?_) (word_eq k.val c.val (v (ix1 i)) k.isLt c.isLt)
  show IntOp.addi (BitVec.ofNat 32 (0 * 2048 + k.val)) _ = _
  rw [Nat.zero_mul, Nat.zero_add]; rfl

/-- One term of the sum is left where the index lies in the device's part, none where it does not. -/
theorem part_row (c : Dev nD) (v : Vec Ideal S512 .i32) (T : Vec Ideal S2048x256 .bf16) (i : Fin 512) (j : Fin 256) :
    (k0_pay1 c v T (ix2 i j) : EReal)
      = if (v (ix1 i)).toNat / 2048 = c.val then (T (ix2 ⟨(v (ix1 i)).toNat % 2048, Nat.mod_lt _ (by decide)⟩ j) : EReal) else 0 := by
  rw [part_sum]
  split
  · rename_i h
    rw [Finset.sum_eq_single ⟨(v (ix1 i)).toNat % 2048, Nat.mod_lt _ (by decide)⟩]
    · rw [if_pos (by show _ = _ + _ % _; omega), one_mul]
    · intro k _ hk
      rw [if_neg fun h' => hk (Fin.ext (by show k.val = _ % _; have := k.isLt; omega)), zero_mul]
    · exact fun h' => absurd (Finset.mem_univ _) h'
  · rename_i h
    refine Finset.sum_eq_zero fun k _ => ?_
    rw [if_neg fun h' => h (by have := k.isLt; omega), zero_mul]

/-- The sum over the landing slots. -/
theorem slots_sum (X : Vec Ideal S8x64x256 .bf16) (r : Fin 64) (j : Fin 256) :
    (k0_pay3 X (ix2 r j) : EReal) = ∑ s : Fin 8, (X (ix3 s r j) : EReal) := by
  unfold k0_pay3
  rw [shapeCast_self]
  refine (Ideal.multiReduction_add_single (extf .f32 X bitsLt_bf16_f32) 0x00000000#32 reduces_S8x64x256_S64x256 (.inl rfl) rfl (ix2 r j)).trans
    (Finset.sum_congr rfl fun s _ => congrArg X ?_)
  funext a
  match a with
  | ⟨0, _⟩ => rfl
  | ⟨1, _⟩ => rfl
  | ⟨2, _⟩ => rfl

/-! ## The result -/

variable (m : (ℓ : Loc nD τ sig) → Buf (Elt Ideal) ℓ) (ρ : Dev nD → PrngReg)

/-- A launch stages each argument whole. -/
theorem tab_eq (c : Dev nD) : tab m ρ c = m ((c.tc : Thread nD τ).loc main_arg0) := by
  funext i
  refine congrArg (m ((c.tc : Thread nD τ).loc main_arg0)) ?_
  funext a
  match a with
  | ⟨0, _⟩ => exact Fin.ext (by show 0 + 1 * (i 0).val = (i 0).val; omega)
  | ⟨1, _⟩ => exact Fin.ext (by show 0 + 1 * (i 1).val = (i 1).val; omega)
theorem ids_eq (c : Dev nD) : ids m ρ c = m ((c.tc : Thread nD τ).loc main_arg1) := by
  funext i
  refine congrArg (m ((c.tc : Thread nD τ).loc main_arg1)) ?_
  funext a
  match a with
  | ⟨0, _⟩ => exact Fin.ext (by show 0 + 1 * (i 0).val = (i 0).val; omega)

/-- Among the devices counted from `q` on, device `e` is met once. -/
theorem met (q e : Dev nD) : q + (e - q) = e := by revert q e; decide
theorem met_once (q e s : Dev nD) (h : q + s = e) : s = e - q := by revert q e s; decide

/-- If the devices hold the consecutive row blocks of one table `T` and all of them the same in-range indices `v`, row `i`
    of the result is row `v i` of `T`. -/
theorem result_entry (T : (⟨2, ![16384, 256]⟩ : Shape).Idx → EReal) (v : IVec S512 32)
    (hT : ∀ (c : Dev nD) (r : Fin 2048) (j : Fin 256), (m ((c.tc : Thread nD τ).loc main_arg0) (ix2 r j) : EReal)
      = T (ix2 ⟨2048 * c.val + r.val, by have := r.isLt; have : c.val < 8 := c.isLt; omega⟩ j))
    (hv : ∀ c : Dev nD, m ((c.tc : Thread nD τ).loc main_arg1) = v) (i : Fin 512) (j : Fin 256) (h : (v (ix1 i)).toNat < 16384) :
    (outBuf m ρ (ix2 i j) : EReal) = T (ix2 ⟨(v (ix1 i)).toNat, h⟩ j) := by
  have hi := i.isLt
  refine (slots_sum (rsBuf m ρ (chunkOf (ix2 i j))) (rowIn (ix2 i j)) j).trans ?_
  have hrow : ∀ s : Dev nD, (rsBuf m ρ (chunkOf (ix2 i j)) (ix3 (s : Fin 8) (rowIn (ix2 i j)) j) : EReal)
      = if (v (ix1 i)).toNat / 2048 = (chunkOf (ix2 i j) + s).val then T (ix2 ⟨(v (ix1 i)).toNat, h⟩ j) else 0 := fun s => by
    have e : (⟨64 * (chunkOf (ix2 i j)).val + (rowIn (ix2 i j)).val, row_lt (chunkOf (ix2 i j)) (rowIn (ix2 i j))⟩ : Fin 512) = i :=
      Fin.ext (show 64 * (i.val / 64) + i.val % 64 = i.val by omega)
    refine (congrArg (fun x => (part m ρ (chunkOf (ix2 i j) + s) (ix2 x j) : EReal)) e).trans ?_
    refine (part_row _ _ _ i j).trans ?_
    rw [ids_eq, hv]
    by_cases hq : (v (ix1 i)).toNat / 2048 = (chunkOf (ix2 i j) + s).val
    · rw [if_pos hq, if_pos hq, tab_eq, hT]
      exact congrArg (fun x => T (ix2 x j)) (Fin.ext (show 2048 * (chunkOf (ix2 i j) + s).val + (v (ix1 i)).toNat % 2048 = (v (ix1 i)).toNat from
        hq ▸ Nat.div_add_mod _ _))
    · rw [if_neg hq, if_neg hq]
  refine (Finset.sum_congr rfl fun s _ => hrow s).trans ?_
  have he : (v (ix1 i)).toNat / 2048 < 8 := by omega
  refine (Finset.sum_eq_single ((⟨(v (ix1 i)).toNat / 2048, he⟩ : Dev nD) - chunkOf (ix2 i j)) (fun s _ hs => ?_)
    (fun h' => absurd (Finset.mem_univ _) h')).trans (if_pos ?_)
  · exact if_neg fun h' => hs (met_once _ _ s (Fin.ext h'.symm))
  · rw [met]

end Kernel

/-! ## The reference, the index condition and the claim -/

/-- Such an index, read as a natural number, is below the number of rows. -/
theorem row_number (w : BitVec 32) (h0 : 0 ≤ w.toInt) (h : w.toInt < 16384) : w.toNat < 16384 := by
  have hw := w.isLt
  rw [BitVec.toInt_eq_toNat_cond] at h0 h
  split at h <;> omega

section Condition
attribute [local instance] facts_pre

/-- The printed index condition says of every index that it names a row. -/
theorem in_range (x : FVec Ideal ⟨2, ![2048, 256]⟩ .bf16) (v : IVec ⟨1, ![512]⟩ 32)
    (h : Cert.Pre_idx_in_range_KernelIdeal.fn (F := Ideal) x v = fun _ => 1#1) (i : Fin 512) :
    0 ≤ (v (ix1 i)).toInt ∧ (v (ix1 i)).toInt < 16384 := by
  have h1 := congrFun h (fun a : Fin 0 => a.elim0)
  unfold Cert.Pre_idx_in_range_KernelIdeal.fn at h1
  have h2 := Host.reduce_andi_all _ _ _ _ _ h1 (ix1 i)
  obtain ⟨h3, h4⟩ := IntOp.andi_eq_one.mp h2
  exact ⟨IntOp.cmpi_sge.mp h3, IntOp.cmpi_slt.mp h4⟩

end Condition

section Reference
open Cert.ReferenceIdeal Cert.ReferenceIdeal.Gen
attribute [local instance] Cert.ReferenceIdeal.Gen.facts

/-- Row `i` of the reference's result is the table's row `v i`. -/
theorem reference_entry (T : FVec Ideal S16384x256 .bf16) (v : IVec S512 32) (i : Fin 512) (j : Fin 256)
    (h0 : 0 ≤ (v (ix1 i)).toInt) (h : (v (ix1 i)).toNat < 16384) :
    (Host.gather gather_S16384x256_S512x1_S512x256_1_0_n_n_0_1_1256 (extf .f32 T bitsLt_bf16_f32) (broadcastInDim S512x1 ![0] bcast_S512_S512x1_0
      (select (cmpi .slt v (broadcastInDim S512 ![] bcast_S_S512 (constantI S_ 32 0#32)))
        (addi v (broadcastInDim S512 ![] bcast_S_S512 (constantI S_ 32 16384#32))) v)) (ix2 i j) : EReal)
      = T (ix2 ⟨(v (ix1 i)).toNat, h⟩ j) := by
  refine (Routing.gather_row gather_S16384x256_S512x1_S512x256_1_0_n_n_0_1_1256 rfl rfl rfl rfl rfl _ _ i j ⟨(v (ix1 i)).toNat, h⟩ ?_ (by decide)).trans rfl
  rw [broadcastInDim_apply _ bcast_S512_S512x1_0 _ (ix2 i (0 : Fin 1)) (ix1 i) (fun a => by fin_cases a; rfl)]
  have hc : cmpi .slt v (broadcastInDim S512 ![] bcast_S_S512 (constantI S_ 32 0#32)) (ix1 i) = 0#1 :=
    eq_zero_of_ne_one fun e => absurd (IntOp.cmpi_slt.mp e) (Int.not_lt.mpr h0)
  show (if cmpi .slt v (broadcastInDim S512 ![] bcast_S_S512 (constantI S_ 32 0#32)) (ix1 i) = 1#1 then _ else v (ix1 i)) = _
  rw [hc]
  show v (ix1 i) = BitVec.ofNat 32 (v (ix1 i)).toNat
  rw [BitVec.ofNat_toNat, BitVec.setWidth_eq]

end Reference

/-- Where every index names a row, every device ends with the reference's result. -/
theorem same_result : Cert.algebraic_KernelIdeal_ReferenceIdeal_pre_idx_in_range_KernelIdeal (hKernelIdeal := Cert.KernelIdeal.Gen.facts)
    (hReferenceIdeal := Cert.ReferenceIdeal.Gen.facts) (hPre_idx_in_range_KernelIdeal := facts_pre) := by
  intro m g m' g' hpre hargs
  refine ⟨outBuf (F := Ideal) m g, (θ_run _ _ _).mono (fun _ h => h.1) (run_result (F := Ideal) m g),
    (θ_run _ _ _).mono (fun _ h => ⟨(h 0).1.trans ?_, (h 0).2⟩) (Cert.ReferenceIdeal.Value.run (F := Ideal) m' g')⟩
  funext x
  have hr := in_range _ _ (hpre 0) (x 0)
  rw [(hargs 0).2] at hr
  have hn := row_number _ hr.1 hr.2
  have hx : x = ix2 (x 0) (x 1) := by
    funext a
    match a with
    | ⟨0, _⟩ => rfl
    | ⟨1, _⟩ => rfl
  rw [hx]
  exact (reference_entry _ _ (x 0) (x 1) hr.1 hn).trans (result_entry m g _ _ (fun c r j => by
    rw [(hargs c).1]
    refine congrArg (m' (((0 : Dev Cert.ReferenceIdeal.nD).tc : Thread Cert.ReferenceIdeal.nD Cert.ReferenceIdeal.τ).loc Cert.ReferenceIdeal.main_arg0)) ?_
    funext a
    match a with
    | ⟨0, _⟩ => exact Fin.ext (by show c.val * 2048 + r.val = 2048 * c.val + r.val; omega)
    | ⟨1, _⟩ => rfl) (fun c => (hargs c).2) (x 0) (x 1) hn).symm

end Cert.Lookup

end
-- ==== Proof.lean ====
/-
An embedding lookup on eight devices: the proof of all its claims, assembled.

The modules under Proof/: `Contents` names the devices and what each buffer comes to hold; `Schedule` says which device
pays which counter, how much and with what contents; `Steps` proves each kind of step of the exchange once; `Body` states
what one device's body needs and leaves; `Run` runs the body on an arbitrary device; `Launch` joins the eight bodies;
`Frames` reads off memory and counters; `Value` proves that the sum of the devices' contributions is the lookup.
-/
module

public import proofs.«01_k».proof.Defs
public import proofs.«01_k».proof.Proof.Frames
public import proofs.«01_k».proof.Proof.Value

@[expose] public section

noncomputable section

namespace Cert.Proof

open Cert.Lookup

/-- Both printed programs and the reference run, keep their arguments and end with every counter at zero; the program over
    exact values is the printed one's own text; and where every index names a row, every device ends with the rows that
    the indices name. -/
theorem claim : Cert.Claim :=
  ⟨Cert.Kernel.Gen.facts, Cert.KernelIdeal.Gen.facts, Cert.ReferenceIdeal.Gen.facts, facts_pre, facts_pre_ref,
    frame_kernel, frame_ideal, fun m ρ _ => frame_ideal m ρ trivial, frame_reference, fun m ρ _ => frame_reference m ρ trivial,
    trivial, same_result⟩

end Cert.Proof

end
